-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pack.Statement Cert.KernelIdeal.S256x128
  ∧ IdealRules.bf16_pair.PackStatement Cert.KernelIdeal.S8x128
  ∧ IdealRules.bf16_pair.Statement Cert.KernelIdeal.S16x128 Cert.KernelIdeal.S8x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S6x512x5x8x128 : Shape := ⟨5, ![6, 512, 5, 8, 128]⟩
abbrev S4096x128 : Shape := ⟨2, ![4096, 128]⟩
abbrev S256x1280 : Shape := ⟨2, ![256, 1280]⟩
abbrev S4096x4 : Shape := ⟨2, ![4096, 4]⟩
abbrev S4096x24 : Shape := ⟨2, ![4096, 24]⟩
abbrev S_ : Shape := ⟨0, ![]⟩

class Facts : Prop where
  slices_S4096x128_S4096x4_0_24 : S4096x128.Slices ![0, 24] S4096x4
  slices_S4096x128_S4096x24_0_0 : S4096x128.Slices ![0, 0] S4096x24
  bcast_S_S4096x24 : S_.BroadcastsInDim S4096x24 (![] : Fin 0 → Fin S4096x24.rank)
  reducesTo_S4096x24_S_d0_1 : S4096x24.ReducesTo [0, 1] S_
  h_S_ : 0 < S_.numel
  bcast_S_S256x1280 : S_.BroadcastsInDim S256x1280 (![] : Fin 0 → Fin S256x1280.rank)
  reducesTo_S256x1280_S_d0_1 : S256x1280.ReducesTo [0, 1] S_
  reducesTo_S4096x4_S_d0_1 : S4096x4.ReducesTo [0, 1] S_
  bcast_S_S4096x4 : S_.BroadcastsInDim S4096x4 (![] : Fin 0 → Fin S4096x4.rank)

variable [Facts]

def fn_part1 {F : FTy → Type} [FloatOps F] (main_v1 : IVec S4096x4 32) (main_v15 : IVec S_ 1) (main_v17 : IVec S4096x4 1) : IVec S_ 1 :=
  let main_c_4 : IVec S_ 32 := constantI S_ 32 256#32
  let main_v18 : IVec S4096x4 32 := broadcastInDim S4096x4 ![] bcast_S_S4096x4 main_c_4
  let main_v19 : IVec S4096x4 1 := cmpi .slt main_v1 main_v18
  let main_v20 : IVec S4096x4 1 := andi main_v17 main_v19
  let main_c_5 : IVec S_ 1 := constantI S_ 1 1#1
  let main_v21 : IVec S_ 1 := (fun x v => Host.reduce IntOp.andi x v reducesTo_S4096x4_S_d0_1 h_S_) main_v20 main_c_5
  let main_v22 : IVec S_ 1 := andi main_v15 main_v21
  main_v22

def fn {F : FTy → Type} [FloatOps F] (main_arg0 : IVec S6x512x5x8x128 32) (main_arg1 : FVec F S4096x128 .f32) (main_arg2 : FVec F S256x1280 .f32) : IVec S_ 1 :=
  let main_v0 : FVec F S4096x4 .f32 := (extractStridedSlice S4096x4 ![0, 24] · slices_S4096x128_S4096x4_0_24) main_arg1
  let main_v1 : IVec S4096x4 32 := fptosi 32 main_v0
  let main_v2 : FVec F S4096x24 .f32 := (extractStridedSlice S4096x24 ![0, 0] · slices_S4096x128_S4096x24_0_0) main_arg1
  let main_v3 : FVec F S4096x24 .f32 := Host.absf main_v2
  let main_cst : FVec F S_ .f32 := constant S_ .f32 0x7F800000#32
  let main_v4 : FVec F S4096x24 .f32 := broadcastInDim S4096x24 ![] bcast_S_S4096x24 main_cst
  let main_v5 : IVec S4096x24 1 := cmpf .olt main_v3 main_v4
  let main_c : IVec S_ 1 := constantI S_ 1 1#1
  let main_v6 : IVec S_ 1 := (fun x v => Host.reduce IntOp.andi x v reducesTo_S4096x24_S_d0_1 h_S_) main_v5 main_c
  let main_v7 : FVec F S256x1280 .f32 := Host.absf main_arg2
  let main_cst_0 : FVec F S_ .f32 := constant S_ .f32 0x7F800000#32
  let main_v8 : FVec F S256x1280 .f32 := broadcastInDim S256x1280 ![] bcast_S_S256x1280 main_cst_0
  let main_v9 : IVec S256x1280 1 := cmpf .olt main_v7 main_v8
  let main_c_1 : IVec S_ 1 := constantI S_ 1 1#1
  let main_v10 : IVec S_ 1 := (fun x v => Host.reduce IntOp.andi x v reducesTo_S256x1280_S_d0_1 h_S_) main_v9 main_c_1
  let main_v11 : IVec S_ 1 := andi main_v6 main_v10
  let main_v12 : FVec F S4096x4 .f32 := sitofp .f32 main_v1
  let main_v13 : IVec S4096x4 1 := cmpf .oeq main_v0 main_v12
  let main_c_2 : IVec S_ 1 := constantI S_ 1 1#1
  let main_v14 : IVec S_ 1 := (fun x v => Host.reduce IntOp.andi x v reducesTo_S4096x4_S_d0_1 h_S_) main_v13 main_c_2
  let main_v15 : IVec S_ 1 := andi main_v11 main_v14
  let main_c_3 : IVec S_ 32 := constantI S_ 32 0#32
  let main_v16 : IVec S4096x4 32 := broadcastInDim S4096x4 ![] bcast_S_S4096x4 main_c_3
  let main_v17 : IVec S4096x4 1 := cmpi .sge main_v1 main_v16
  fn_part1 (F := F) main_v1 main_v15 main_v17
-- ==== Kernel.lean ====
abbrev S6x512x5x8x128 : Shape := ⟨5, ![6, 512, 5, 8, 128]⟩
abbrev S4096x128 : Shape := ⟨2, ![4096, 128]⟩
abbrev S256x1280 : Shape := ⟨2, ![256, 1280]⟩
abbrev S16384x1280 : Shape := ⟨2, ![16384, 1280]⟩
abbrev S6x8x5x8x128 : Shape := ⟨5, ![6, 8, 5, 8, 128]⟩
abbrev S64x128 : Shape := ⟨2, ![64, 128]⟩
abbrev S3x256x1280 : Shape := ⟨3, ![3, 256, 1280]⟩
abbrev S8x128 : Shape := ⟨2, ![8, 128]⟩
abbrev S256x128 : Shape := ⟨2, ![256, 128]⟩
abbrev S1x256x128 : Shape := ⟨3, ![1, 256, 128]⟩
abbrev S8x256 : Shape := ⟨2, ![8, 256]⟩
abbrev S8x1 : Shape := ⟨2, ![8, 1]⟩
abbrev S256x256 : Shape := ⟨2, ![256, 256]⟩
abbrev S1x256x1280 : Shape := ⟨3, ![1, 256, 1280]⟩
abbrev S1x1x1x8x128 : Shape := ⟨5, ![1, 1, 1, 8, 128]⟩
abbrev S16x128 : Shape := ⟨2, ![16, 128]⟩
abbrev S4x4096x1280 : Shape := ⟨3, ![4, 4096, 1280]⟩
abbrev S4x7x1280 : Shape := ⟨3, ![4, 7, 1280]⟩

abbrev nBuf : Space → Nat
  | .hbm => 6
  | .vmem => 9
  | .smem => 0
  | _ => 0

abbrev bufTy : (tb : Table) → Fin (tcTables nBuf tb) → BufTy
  | .hbm, ⟨0, _⟩ => ⟨S6x512x5x8x128, .i32⟩
  | .hbm, ⟨1, _⟩ => ⟨S4096x128, .f32⟩
  | .hbm, ⟨2, _⟩ => ⟨S256x1280, .f32⟩
  | .hbm, ⟨3, _⟩ => ⟨S16384x1280, .bf16⟩
  | .hbm, ⟨4, _⟩ => ⟨S4x4096x1280, .bf16⟩
  | .hbm, ⟨5, _⟩ => ⟨S4x7x1280, .bf16⟩
  | .local _ .vmem, ⟨0, _⟩ => ⟨S6x8x5x8x128, .i32⟩
  | .local _ .vmem, ⟨1, _⟩ => ⟨S6x8x5x8x128, .i32⟩
  | .local _ .vmem, ⟨2, _⟩ => ⟨S64x128, .f32⟩
  | .local _ .vmem, ⟨3, _⟩ => ⟨S64x128, .f32⟩
  | .local _ .vmem, ⟨4, _⟩ => ⟨S256x1280, .f32⟩
  | .local _ .vmem, ⟨5, _⟩ => ⟨S256x1280, .bf16⟩
  | .local _ .vmem, ⟨6, _⟩ => ⟨S256x1280, .bf16⟩
  | .local _ .vmem, ⟨7, _⟩ => ⟨S3x256x1280, .bf16⟩
  | .local _ .vmem, ⟨8, _⟩ => ⟨S256x1280, .f32⟩
  | _, _ => ⟨S6x512x5x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32_85 : BitVec 32 := 0#32
  let c8_i32 : BitVec 32 := 8#32
  let v226 : BitVec 32 := Scalar.addi c0_i32_85 c8_i32
  let c1_i32_86 : BitVec 32 := 1#32
  ⟨c0_i32_85, v226, c1_i32_86⟩
def k0_off1 (k0_t1 : Fin k0_t1_loop.trips) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c8_i32_90 : BitVec 32 := 8#32
  let v229 : BitVec 32 := Scalar.muli v228 c8_i32_90
  let v230 : Index := Scalar.indexCast v229
  let c0_91 : Index := 0#32
  ![v230.toNat, 0]
def k0_off2 (k0_t1 : Fin k0_t1_loop.trips) (c0_i32_97 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32 : BitVec 32 := 32#32
  let v342 : BitVec 32 := Scalar.muli v228 c32_i32
  let v343 : BitVec 32 := Scalar.addi v342 c0_i32_97
  let v344 : Index := Scalar.indexCast v343
  let c0_98 : Index := 0#32
  ![v344.toNat, 0]
def k0_off3 (k0_t1 : Fin k0_t1_loop.trips) (c0_i32_100 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_99 : BitVec 32 := 32#32
  let v347 : BitVec 32 := Scalar.muli v228 c32_i32_99
  let v348 : BitVec 32 := Scalar.addi v347 c0_i32_100
  let v349 : Index := Scalar.indexCast v348
  let c640 : Index := 640#32
  ![v349.toNat, 640]
def k0_off4 (k0_t1 : Fin k0_t1_loop.trips) : Fin 5 → Nat :=
  let c0_117 : Index := 0#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v382 : Index := Scalar.indexCast v228
  let c0_118 : Index := 0#32
  let c0_119 : Index := 0#32
  let c0_120 : Index := 0#32
  ![0, v382.toNat, 0, 0, 0]
def k0_off5 (k0_t1 : Fin k0_t1_loop.trips) : Fin 5 → Nat :=
  let c1_125 : Index := 1#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v429 : Index := Scalar.indexCast v228
  let c0_126 : Index := 0#32
  let c0_127 : Index := 0#32
  let c0_128 : Index := 0#32
  ![1, v429.toNat, 0, 0, 0]
def k0_off6 (k0_t1 : Fin k0_t1_loop.trips) : Fin 5 → Nat :=
  let c2_139 : Index := 2#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v476 : Index := Scalar.indexCast v228
  let c0_140 : Index := 0#32
  let c0_141 : Index := 0#32
  let c0_142 : Index := 0#32
  ![2, v476.toNat, 0, 0, 0]
def k0_off7 (k0_t1 : Fin k0_t1_loop.trips) : Fin 5 → Nat :=
  let c3 : Index := 3#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v523 : Index := Scalar.indexCast v228
  let c0_153 : Index := 0#32
  let c0_154 : Index := 0#32
  let c0_155 : Index := 0#32
  ![3, v523.toNat, 0, 0, 0]
def k0_off8 (k0_t1 : Fin k0_t1_loop.trips) : Fin 5 → Nat :=
  let c4 : Index := 4#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v570 : Index := Scalar.indexCast v228
  let c0_166 : Index := 0#32
  let c0_167 : Index := 0#32
  let c0_168 : Index := 0#32
  ![4, v570.toNat, 0, 0, 0]
def k0_off9 (k0_t1 : Fin k0_t1_loop.trips) : Fin 5 → Nat :=
  let c5 : Index := 5#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v617 : Index := Scalar.indexCast v228
  let c0_179 : Index := 0#32
  let c0_180 : Index := 0#32
  let c0_181 : Index := 0#32
  ![5, v617.toNat, 0, 0, 0]
def k0_off10 (k0_t1 : Fin k0_t1_loop.trips) (c0_i32_195 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_194 : BitVec 32 := 32#32
  let v671 : BitVec 32 := Scalar.muli v228 c32_i32_194
  let v672 : BitVec 32 := Scalar.addi v671 c0_i32_195
  let v673 : Index := Scalar.indexCast v672
  let c0_196 : Index := 0#32
  ![v673.toNat, 0]
def k0_off11 (k0_t1 : Fin k0_t1_loop.trips) (c0_i32_198 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_197 : BitVec 32 := 32#32
  let v676 : BitVec 32 := Scalar.muli v228 c32_i32_197
  let v677 : BitVec 32 := Scalar.addi v676 c0_i32_198
  let v678 : Index := Scalar.indexCast v677
  let c128 : Index := 128#32
  ![v678.toNat, 128]
def k0_off12 (k0_t1 : Fin k0_t1_loop.trips) (c0_i32_208 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_207 : BitVec 32 := 32#32
  let v696 : BitVec 32 := Scalar.muli v228 c32_i32_207
  let v697 : BitVec 32 := Scalar.addi v696 c0_i32_208
  let v698 : Index := Scalar.indexCast v697
  let c128_209 : Index := 128#32
  ![v698.toNat, 128]
def k0_off13 (k0_t1 : Fin k0_t1_loop.trips) (c0_i32_211 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_210 : BitVec 32 := 32#32
  let v701 : BitVec 32 := Scalar.muli v228 c32_i32_210
  let v702 : BitVec 32 := Scalar.addi v701 c0_i32_211
  let v703 : Index := Scalar.indexCast v702
  let c768 : Index := 768#32
  ![v703.toNat, 768]
def k0_off14 (k0_t1 : Fin k0_t1_loop.trips) : Fin 5 → Nat :=
  let c0_230 : Index := 0#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v736 : Index := Scalar.indexCast v228
  let c1_231 : Index := 1#32
  let c0_232 : Index := 0#32
  let c0_233 : Index := 0#32
  ![0, v736.toNat, 1, 0, 0]
def k0_off15 (k0_t1 : Fin k0_t1_loop.trips) : Fin 5 → Nat :=
  let c1_244 : Index := 1#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v783 : Index := Scalar.indexCast v228
  let c1_245 : Index := 1#32
  let c0_246 : Index := 0#32
  let c0_247 : Index := 0#32
  ![1, v783.toNat, 1, 0, 0]
def k0_off16 (k0_t1 : Fin k0_t1_loop.trips) : Fin 5 → Nat :=
  let c2_258 : Index := 2#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v830 : Index := Scalar.indexCast v228
  let c1_259 : Index := 1#32
  let c0_260 : Index := 0#32
  let c0_261 : Index := 0#32
  ![2, v830.toNat, 1, 0, 0]
def k0_off17 (k0_t1 : Fin k0_t1_loop.trips) : Fin 5 → Nat :=
  let c3_272 : Index := 3#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v877 : Index := Scalar.indexCast v228
  let c1_273 : Index := 1#32
  let c0_274 : Index := 0#32
  let c0_275 : Index := 0#32
  ![3, v877.toNat, 1, 0, 0]
def k0_off18 (k0_t1 : Fin k0_t1_loop.trips) : Fin 5 → Nat :=
  let c4_286 : Index := 4#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v924 : Index := Scalar.indexCast v228
  let c1_287 : Index := 1#32
  let c0_288 : Index := 0#32
  let c0_289 : Index := 0#32
  ![4, v924.toNat, 1, 0, 0]
def k0_off19 (k0_t1 : Fin k0_t1_loop.trips) : Fin 5 → Nat :=
  let c5_300 : Index := 5#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v971 : Index := Scalar.indexCast v228
  let c1_301 : Index := 1#32
  let c0_302 : Index := 0#32
  let c0_303 : Index := 0#32
  ![5, v971.toNat, 1, 0, 0]
def k0_off20 (k0_t1 : Fin k0_t1_loop.trips) (c0_i32_317 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_316 : BitVec 32 := 32#32
  let v1025 : BitVec 32 := Scalar.muli v228 c32_i32_316
  let v1026 : BitVec 32 := Scalar.addi v1025 c0_i32_317
  let v1027 : Index := Scalar.indexCast v1026
  let c256 : Index := 256#32
  ![v1027.toNat, 256]
def k0_off21 (k0_t1 : Fin k0_t1_loop.trips) (c0_i32_319 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_318 : BitVec 32 := 32#32
  let v1030 : BitVec 32 := Scalar.muli v228 c32_i32_318
  let v1031 : BitVec 32 := Scalar.addi v1030 c0_i32_319
  let v1032 : Index := Scalar.indexCast v1031
  let c384 : Index := 384#32
  ![v1032.toNat, 384]
def k0_off22 (k0_t1 : Fin k0_t1_loop.trips) (c0_i32_329 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_328 : BitVec 32 := 32#32
  let v1050 : BitVec 32 := Scalar.muli v228 c32_i32_328
  let v1051 : BitVec 32 := Scalar.addi v1050 c0_i32_329
  let v1052 : Index := Scalar.indexCast v1051
  let c256_330 : Index := 256#32
  ![v1052.toNat, 256]
def k0_off23 (k0_t1 : Fin k0_t1_loop.trips) (c0_i32_332 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_331 : BitVec 32 := 32#32
  let v1055 : BitVec 32 := Scalar.muli v228 c32_i32_331
  let v1056 : BitVec 32 := Scalar.addi v1055 c0_i32_332
  let v1057 : Index := Scalar.indexCast v1056
  let c896 : Index := 896#32
  ![v1057.toNat, 896]
def k0_off24 (k0_t1 : Fin k0_t1_loop.trips) : Fin 5 → Nat :=
  let c0_351 : Index := 0#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1090 : Index := Scalar.indexCast v228
  let c2_352 : Index := 2#32
  let c0_353 : Index := 0#32
  let c0_354 : Index := 0#32
  ![0, v1090.toNat, 2, 0, 0]
def k0_off25 (k0_t1 : Fin k0_t1_loop.trips) : Fin 5 → Nat :=
  let c1_365 : Index := 1#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1137 : Index := Scalar.indexCast v228
  let c2_366 : Index := 2#32
  let c0_367 : Index := 0#32
  let c0_368 : Index := 0#32
  ![1, v1137.toNat, 2, 0, 0]
def k0_off26 (k0_t1 : Fin k0_t1_loop.trips) : Fin 5 → Nat :=
  let c2_379 : Index := 2#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1184 : Index := Scalar.indexCast v228
  let c2_380 : Index := 2#32
  let c0_381 : Index := 0#32
  let c0_382 : Index := 0#32
  ![2, v1184.toNat, 2, 0, 0]
def k0_off27 (k0_t1 : Fin k0_t1_loop.trips) : Fin 5 → Nat :=
  let c3_393 : Index := 3#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1231 : Index := Scalar.indexCast v228
  let c2_394 : Index := 2#32
  let c0_395 : Index := 0#32
  let c0_396 : Index := 0#32
  ![3, v1231.toNat, 2, 0, 0]
def k0_off28 (k0_t1 : Fin k0_t1_loop.trips) : Fin 5 → Nat :=
  let c4_407 : Index := 4#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1278 : Index := Scalar.indexCast v228
  let c2_408 : Index := 2#32
  let c0_409 : Index := 0#32
  let c0_410 : Index := 0#32
  ![4, v1278.toNat, 2, 0, 0]
def k0_off29 (k0_t1 : Fin k0_t1_loop.trips) : Fin 5 → Nat :=
  let c5_421 : Index := 5#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1325 : Index := Scalar.indexCast v228
  let c2_422 : Index := 2#32
  let c0_423 : Index := 0#32
  let c0_424 : Index := 0#32
  ![5, v1325.toNat, 2, 0, 0]
def k0_off30 (k0_t1 : Fin k0_t1_loop.trips) (c0_i32_438 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_437 : BitVec 32 := 32#32
  let v1379 : BitVec 32 := Scalar.muli v228 c32_i32_437
  let v1380 : BitVec 32 := Scalar.addi v1379 c0_i32_438
  let v1381 : Index := Scalar.indexCast v1380
  let c512 : Index := 512#32
  ![v1381.toNat, 512]
def k0_off31 (k0_t1 : Fin k0_t1_loop.trips) (c0_i32_440 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_439 : BitVec 32 := 32#32
  let v1384 : BitVec 32 := Scalar.muli v228 c32_i32_439
  let v1385 : BitVec 32 := Scalar.addi v1384 c0_i32_440
  let v1386 : Index := Scalar.indexCast v1385
  let c640_441 : Index := 640#32
  ![v1386.toNat, 640]
def k0_off32 (k0_t1 : Fin k0_t1_loop.trips) (c0_i32_451 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_450 : BitVec 32 := 32#32
  let v1404 : BitVec 32 := Scalar.muli v228 c32_i32_450
  let v1405 : BitVec 32 := Scalar.addi v1404 c0_i32_451
  let v1406 : Index := Scalar.indexCast v1405
  let c384_452 : Index := 384#32
  ![v1406.toNat, 384]
def k0_off33 (k0_t1 : Fin k0_t1_loop.trips) (c0_i32_454 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_453 : BitVec 32 := 32#32
  let v1409 : BitVec 32 := Scalar.muli v228 c32_i32_453
  let v1410 : BitVec 32 := Scalar.addi v1409 c0_i32_454
  let v1411 : Index := Scalar.indexCast v1410
  let c1024 : Index := 1024#32
  ![v1411.toNat, 1024]
def k0_off34 (k0_t1 : Fin k0_t1_loop.trips) : Fin 5 → Nat :=
  let c0_473 : Index := 0#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1444 : Index := Scalar.indexCast v228
  let c3_474 : Index := 3#32
  let c0_475 : Index := 0#32
  let c0_476 : Index := 0#32
  ![0, v1444.toNat, 3, 0, 0]
def k0_off35 (k0_t1 : Fin k0_t1_loop.trips) : Fin 5 → Nat :=
  let c1_487 : Index := 1#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1491 : Index := Scalar.indexCast v228
  let c3_488 : Index := 3#32
  let c0_489 : Index := 0#32
  let c0_490 : Index := 0#32
  ![1, v1491.toNat, 3, 0, 0]
def k0_off36 (k0_t1 : Fin k0_t1_loop.trips) : Fin 5 → Nat :=
  let c2_501 : Index := 2#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1538 : Index := Scalar.indexCast v228
  let c3_502 : Index := 3#32
  let c0_503 : Index := 0#32
  let c0_504 : Index := 0#32
  ![2, v1538.toNat, 3, 0, 0]
def k0_off37 (k0_t1 : Fin k0_t1_loop.trips) : Fin 5 → Nat :=
  let c3_515 : Index := 3#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1585 : Index := Scalar.indexCast v228
  let c3_516 : Index := 3#32
  let c0_517 : Index := 0#32
  let c0_518 : Index := 0#32
  ![3, v1585.toNat, 3, 0, 0]
def k0_off38 (k0_t1 : Fin k0_t1_loop.trips) : Fin 5 → Nat :=
  let c4_529 : Index := 4#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1632 : Index := Scalar.indexCast v228
  let c3_530 : Index := 3#32
  let c0_531 : Index := 0#32
  let c0_532 : Index := 0#32
  ![4, v1632.toNat, 3, 0, 0]
def k0_off39 (k0_t1 : Fin k0_t1_loop.trips) : Fin 5 → Nat :=
  let c5_543 : Index := 5#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1679 : Index := Scalar.indexCast v228
  let c3_544 : Index := 3#32
  let c0_545 : Index := 0#32
  let c0_546 : Index := 0#32
  ![5, v1679.toNat, 3, 0, 0]
def k0_off40 (k0_t1 : Fin k0_t1_loop.trips) (c0_i32_560 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_559 : BitVec 32 := 32#32
  let v1733 : BitVec 32 := Scalar.muli v228 c32_i32_559
  let v1734 : BitVec 32 := Scalar.addi v1733 c0_i32_560
  let v1735 : Index := Scalar.indexCast v1734
  let c768_561 : Index := 768#32
  ![v1735.toNat, 768]
def k0_off41 (k0_t1 : Fin k0_t1_loop.trips) (c0_i32_563 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_562 : BitVec 32 := 32#32
  let v1738 : BitVec 32 := Scalar.muli v228 c32_i32_562
  let v1739 : BitVec 32 := Scalar.addi v1738 c0_i32_563
  let v1740 : Index := Scalar.indexCast v1739
  let c896_564 : Index := 896#32
  ![v1740.toNat, 896]
def k0_off42 (k0_t1 : Fin k0_t1_loop.trips) (c0_i32_574 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_573 : BitVec 32 := 32#32
  let v1758 : BitVec 32 := Scalar.muli v228 c32_i32_573
  let v1759 : BitVec 32 := Scalar.addi v1758 c0_i32_574
  let v1760 : Index := Scalar.indexCast v1759
  let c512_575 : Index := 512#32
  ![v1760.toNat, 512]
def k0_off43 (k0_t1 : Fin k0_t1_loop.trips) (c0_i32_577 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_576 : BitVec 32 := 32#32
  let v1763 : BitVec 32 := Scalar.muli v228 c32_i32_576
  let v1764 : BitVec 32 := Scalar.addi v1763 c0_i32_577
  let v1765 : Index := Scalar.indexCast v1764
  let c1152 : Index := 1152#32
  ![v1765.toNat, 1152]
def k0_off44 (k0_t1 : Fin k0_t1_loop.trips) : Fin 5 → Nat :=
  let c0_596 : Index := 0#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1798 : Index := Scalar.indexCast v228
  let c4_597 : Index := 4#32
  let c0_598 : Index := 0#32
  let c0_599 : Index := 0#32
  ![0, v1798.toNat, 4, 0, 0]
def k0_off45 (k0_t1 : Fin k0_t1_loop.trips) : Fin 5 → Nat :=
  let c1_610 : Index := 1#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1845 : Index := Scalar.indexCast v228
  let c4_611 : Index := 4#32
  let c0_612 : Index := 0#32
  let c0_613 : Index := 0#32
  ![1, v1845.toNat, 4, 0, 0]
def k0_off46 (k0_t1 : Fin k0_t1_loop.trips) : Fin 5 → Nat :=
  let c2_624 : Index := 2#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1892 : Index := Scalar.indexCast v228
  let c4_625 : Index := 4#32
  let c0_626 : Index := 0#32
  let c0_627 : Index := 0#32
  ![2, v1892.toNat, 4, 0, 0]
def k0_off47 (k0_t1 : Fin k0_t1_loop.trips) : Fin 5 → Nat :=
  let c3_638 : Index := 3#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1939 : Index := Scalar.indexCast v228
  let c4_639 : Index := 4#32
  let c0_640 : Index := 0#32
  let c0_641 : Index := 0#32
  ![3, v1939.toNat, 4, 0, 0]
def k0_off48 (k0_t1 : Fin k0_t1_loop.trips) : Fin 5 → Nat :=
  let c4_652 : Index := 4#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v1986 : Index := Scalar.indexCast v228
  let c4_653 : Index := 4#32
  let c0_654 : Index := 0#32
  let c0_655 : Index := 0#32
  ![4, v1986.toNat, 4, 0, 0]
def k0_off49 (k0_t1 : Fin k0_t1_loop.trips) : Fin 5 → Nat :=
  let c5_666 : Index := 5#32
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let v2033 : Index := Scalar.indexCast v228
  let c4_667 : Index := 4#32
  let c0_668 : Index := 0#32
  let c0_669 : Index := 0#32
  ![5, v2033.toNat, 4, 0, 0]
def k0_off50 (k0_t1 : Fin k0_t1_loop.trips) (c0_i32_683 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_682 : BitVec 32 := 32#32
  let v2087 : BitVec 32 := Scalar.muli v228 c32_i32_682
  let v2088 : BitVec 32 := Scalar.addi v2087 c0_i32_683
  let v2089 : Index := Scalar.indexCast v2088
  let c1024_684 : Index := 1024#32
  ![v2089.toNat, 1024]
def k0_off51 (k0_t1 : Fin k0_t1_loop.trips) (c0_i32_686 : BitVec 32) : Fin 2 → Nat :=
  let c0_i32_89 : BitVec 32 := 0#32
  let c0_i32_85 : BitVec 32 := 0#32
  let c1_i32_86 : BitVec 32 := 1#32
  let arg7 : BitVec 32 := Scf.iv c0_i32_85 c1_i32_86 k0_t1
  let c1_i32_88 : BitVec 32 := 1#32
  let v227 : BitVec 32 := Scalar.muli arg7 c1_i32_88
  let v228 : BitVec 32 := Scalar.addi c0_i32_89 v227
  let c32_i32_685 : BitVec 32 := 32#32
  let v2092 : BitVec 32 := Scalar.muli v228 c32_i32_685
  let v2093 : BitVec 32 := Scalar.addi v2092 c0_i32_686
  let v2094 : Index := Scalar.indexCast v2093
  let c1152_687 : Index := 1152#32
  ![v2094.toNat, 1152]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x8x5x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S6x512x5x8x128 : Shape := ⟨5, ![6, 512, 5, 8, 128]⟩
abbrev S4096x128 : Shape := ⟨2, ![4096, 128]⟩
abbrev S256x1280 : Shape := ⟨2, ![256, 1280]⟩
abbrev S6x512x5x8x128x1 : Shape := ⟨6, ![6, 512, 5, 8, 128, 1]⟩
abbrev S4 : Shape := ⟨1, ![4]⟩
abbrev S_ : Shape := ⟨0, ![]⟩
abbrev S1x1x1x1x1x4 : Shape := ⟨6, ![1, 1, 1, 1, 1, 4]⟩
abbrev S6x512x5x8x128x4 : Shape := ⟨6, ![6, 512, 5, 8, 128, 4]⟩
abbrev S6x512x5x8x64x2x2x2 : Shape := ⟨8, ![6, 512, 5, 8, 64, 2, 2, 2]⟩
abbrev S6x512x2x8x2x5x2x64 : Shape := ⟨8, ![6, 512, 2, 8, 2, 5, 2, 64]⟩
abbrev S6x16384x640 : Shape := ⟨3, ![6, 16384, 640]⟩
abbrev S512x8x128 : Shape := ⟨3, ![512, 8, 128]⟩
abbrev S512x8x24 : Shape := ⟨3, ![512, 8, 24]⟩
abbrev S512x8x6x2x2 : Shape := ⟨5, ![512, 8, 6, 2, 2]⟩
abbrev S6x512x2x8x2 : Shape := ⟨5, ![6, 512, 2, 8, 2]⟩
abbrev S6x16384 : Shape := ⟨2, ![6, 16384]⟩
abbrev S512x8x4 : Shape := ⟨3, ![512, 8, 4]⟩
abbrev S512x8x2x2 : Shape := ⟨4, ![512, 8, 2, 2]⟩
abbrev S512x2x8x2 : Shape := ⟨4, ![512, 2, 8, 2]⟩
abbrev S16384 : Shape := ⟨1, ![16384]⟩
abbrev S1x16384 : Shape := ⟨2, ![1, 16384]⟩
abbrev S16384x1 : Shape := ⟨2, ![16384, 1]⟩
abbrev S1x16384x640 : Shape := ⟨3, ![1, 16384, 640]⟩
abbrev S16384x640 : Shape := ⟨2, ![16384, 640]⟩
abbrev S16384x640x1 : Shape := ⟨3, ![16384, 640, 1]⟩
abbrev S16384x640x2 : Shape := ⟨3, ![16384, 640, 2]⟩
abbrev S16384x1280 : Shape := ⟨2, ![16384, 1280]⟩
abbrev S4x4096x1280 : Shape := ⟨3, ![4, 4096, 1280]⟩
abbrev S4x7x1280 : Shape := ⟨3, ![4, 7, 1280]⟩

abbrev nBuf : Space → Nat
  | .hbm => 253
  | .vmem => 0
  | .smem => 0
  | _ => 0

abbrev hbmTy0_0 (i : Nat) : BufTy := match i % 128 with
  | 0 => ⟨S6x512x5x8x128, .i32⟩
  | 1 => ⟨S4096x128, .f32⟩
  | 2 => ⟨S256x1280, .f32⟩
  | 3 => ⟨S6x512x5x8x128x1, .i32⟩
  | 4 => ⟨S4, .i32⟩
  | 5 => ⟨S_, .i32⟩
  | 6 => ⟨S4, .i32⟩
  | 7 => ⟨S4, .i32⟩
  | 8 => ⟨S1x1x1x1x1x4, .i32⟩
  | 9 => ⟨S6x512x5x8x128x4, .i32⟩
  | 10 => ⟨S6x512x5x8x128x4, .i32⟩
  | 11 => ⟨S6x512x5x8x128x4, .i32⟩
  | 12 => ⟨S_, .i32⟩
  | 13 => ⟨S6x512x5x8x128x4, .i32⟩
  | 14 => ⟨S6x512x5x8x128x4, .i32⟩
  | 15 => ⟨S6x512x5x8x64x2x2x2, .i32⟩
  | 16 => ⟨S6x512x2x8x2x5x2x64, .i32⟩
  | 17 => ⟨S6x16384x640, .i32⟩
  | 18 => ⟨S512x8x128, .f32⟩
  | 19 => ⟨S512x8x24, .f32⟩
  | 20 => ⟨S512x8x6x2x2, .f32⟩
  | 21 => ⟨S6x512x2x8x2, .f32⟩
  | 22 => ⟨S6x16384, .f32⟩
  | 23 => ⟨S512x8x4, .f32⟩
  | 24 => ⟨S512x8x2x2, .f32⟩
  | 25 => ⟨S512x2x8x2, .f32⟩
  | 26 => ⟨S16384, .f32⟩
  | 27 => ⟨S16384, .i32⟩
  | 28 => ⟨S1x16384, .f32⟩
  | 29 => ⟨S16384, .f32⟩
  | 30 => ⟨S16384x1, .f32⟩
  | 31 => ⟨S1x16384x640, .i32⟩
  | 32 => ⟨S16384x640, .i32⟩
  | 33 => ⟨S_, .i32⟩
  | 34 => ⟨S16384x640, .i32⟩
  | 35 => ⟨S16384x640, .i32⟩
  | 36 => ⟨S_, .i32⟩
  | 37 => ⟨S16384x640, .i32⟩
  | 38 => ⟨S16384x640, .i1⟩
  | 39 => ⟨S_, .i32⟩
  | 40 => ⟨S16384x640, .i32⟩
  | 41 => ⟨S16384x640, .i32⟩
  | 42 => ⟨S16384x640, .i32⟩
  | 43 => ⟨S16384x640, .f32⟩
  | 44 => ⟨S16384x640, .f32⟩
  | 45 => ⟨S16384x640, .f32⟩
  | 46 => ⟨S1x16384x640, .i32⟩
  | 47 => ⟨S16384x640, .i32⟩
  | 48 => ⟨S_, .i32⟩
  | 49 => ⟨S16384x640, .i32⟩
  | 50 => ⟨S16384x640, .i32⟩
  | 51 => ⟨S_, .i32⟩
  | 52 => ⟨S16384x640, .i32⟩
  | 53 => ⟨S16384x640, .i1⟩
  | 54 => ⟨S_, .i32⟩
  | 55 => ⟨S16384x640, .i32⟩
  | 56 => ⟨S16384x640, .i32⟩
  | 57 => ⟨S16384x640, .i32⟩
  | 58 => ⟨S16384x640, .f32⟩
  | 59 => ⟨S16384x640, .f32⟩
  | 60 => ⟨S16384x640, .f32⟩
  | 61 => ⟨S1x16384, .f32⟩
  | 62 => ⟨S16384, .f32⟩
  | 63 => ⟨S16384x1, .f32⟩
  | 64 => ⟨S1x16384x640, .i32⟩
  | 65 => ⟨S16384x640, .i32⟩
  | 66 => ⟨S_, .i32⟩
  | 67 => ⟨S16384x640, .i32⟩
  | 68 => ⟨S16384x640, .i32⟩
  | 69 => ⟨S_, .i32⟩
  | 70 => ⟨S16384x640, .i32⟩
  | 71 => ⟨S16384x640, .i1⟩
  | 72 => ⟨S_, .i32⟩
  | 73 => ⟨S16384x640, .i32⟩
  | 74 => ⟨S16384x640, .i32⟩
  | 75 => ⟨S16384x640, .i32⟩
  | 76 => ⟨S16384x640, .f32⟩
  | 77 => ⟨S16384x640, .f32⟩
  | 78 => ⟨S16384x640, .f32⟩
  | 79 => ⟨S1x16384x640, .i32⟩
  | 80 => ⟨S16384x640, .i32⟩
  | 81 => ⟨S_, .i32⟩
  | 82 => ⟨S16384x640, .i32⟩
  | 83 => ⟨S16384x640, .i32⟩
  | 84 => ⟨S_, .i32⟩
  | 85 => ⟨S16384x640, .i32⟩
  | 86 => ⟨S16384x640, .i1⟩
  | 87 => ⟨S_, .i32⟩
  | 88 => ⟨S16384x640, .i32⟩
  | 89 => ⟨S16384x640, .i32⟩
  | 90 => ⟨S16384x640, .i32⟩
  | 91 => ⟨S16384x640, .f32⟩
  | 92 => ⟨S16384x640, .f32⟩
  | 93 => ⟨S16384x640, .f32⟩
  | 94 => ⟨S16384x640, .f32⟩
  | 95 => ⟨S16384x640, .f32⟩
  | 96 => ⟨S1x16384, .f32⟩
  | 97 => ⟨S16384, .f32⟩
  | 98 => ⟨S16384x1, .f32⟩
  | 99 => ⟨S1x16384x640, .i32⟩
  | 100 => ⟨S16384x640, .i32⟩
  | 101 => ⟨S_, .i32⟩
  | 102 => ⟨S16384x640, .i32⟩
  | 103 => ⟨S16384x640, .i32⟩
  | 104 => ⟨S_, .i32⟩
  | 105 => ⟨S16384x640, .i32⟩
  | 106 => ⟨S16384x640, .i1⟩
  | 107 => ⟨S_, .i32⟩
  | 108 => ⟨S16384x640, .i32⟩
  | 109 => ⟨S16384x640, .i32⟩
  | 110 => ⟨S16384x640, .i32⟩
  | 111 => ⟨S16384x640, .f32⟩
  | 112 => ⟨S16384x640, .f32⟩
  | 113 => ⟨S16384x640, .f32⟩
  | 114 => ⟨S1x16384x640, .i32⟩
  | 115 => ⟨S16384x640, .i32⟩
  | 116 => ⟨S_, .i32⟩
  | 117 => ⟨S16384x640, .i32⟩
  | 118 => ⟨S16384x640, .i32⟩
  | 119 => ⟨S_, .i32⟩
  | 120 => ⟨S16384x640, .i32⟩
  | 121 => ⟨S16384x640, .i1⟩
  | 122 => ⟨S_, .i32⟩
  | 123 => ⟨S16384x640, .i32⟩
  | 124 => ⟨S16384x640, .i32⟩
  | 125 => ⟨S16384x640, .i32⟩
  | 126 => ⟨S16384x640, .f32⟩
  | 127 => ⟨S16384x640, .f32⟩
  | _ => ⟨S6x512x5x8x128, .i32⟩

abbrev hbmTy0_1 (i : Nat) : BufTy := match i % 128 with
  | 0 => ⟨S16384x640, .f32⟩
  | 1 => ⟨S16384x640, .f32⟩
  | 2 => ⟨S16384x640, .f32⟩
  | 3 => ⟨S1x16384, .f32⟩
  | 4 => ⟨S16384, .f32⟩
  | 5 => ⟨S16384x1, .f32⟩
  | 6 => ⟨S1x16384x640, .i32⟩
  | 7 => ⟨S16384x640, .i32⟩
  | 8 => ⟨S_, .i32⟩
  | 9 => ⟨S16384x640, .i32⟩
  | 10 => ⟨S16384x640, .i32⟩
  | 11 => ⟨S_, .i32⟩
  | 12 => ⟨S16384x640, .i32⟩
  | 13 => ⟨S16384x640, .i1⟩
  | 14 => ⟨S_, .i32⟩
  | 15 => ⟨S16384x640, .i32⟩
  | 16 => ⟨S16384x640, .i32⟩
  | 17 => ⟨S16384x640, .i32⟩
  | 18 => ⟨S16384x640, .f32⟩
  | 19 => ⟨S16384x640, .f32⟩
  | 20 => ⟨S16384x640, .f32⟩
  | 21 => ⟨S1x16384x640, .i32⟩
  | 22 => ⟨S16384x640, .i32⟩
  | 23 => ⟨S_, .i32⟩
  | 24 => ⟨S16384x640, .i32⟩
  | 25 => ⟨S16384x640, .i32⟩
  | 26 => ⟨S_, .i32⟩
  | 27 => ⟨S16384x640, .i32⟩
  | 28 => ⟨S16384x640, .i1⟩
  | 29 => ⟨S_, .i32⟩
  | 30 => ⟨S16384x640, .i32⟩
  | 31 => ⟨S16384x640, .i32⟩
  | 32 => ⟨S16384x640, .i32⟩
  | 33 => ⟨S16384x640, .f32⟩
  | 34 => ⟨S16384x640, .f32⟩
  | 35 => ⟨S16384x640, .f32⟩
  | 36 => ⟨S16384x640, .f32⟩
  | 37 => ⟨S16384x640, .f32⟩
  | 38 => ⟨S1x16384, .f32⟩
  | 39 => ⟨S16384, .f32⟩
  | 40 => ⟨S16384x1, .f32⟩
  | 41 => ⟨S1x16384x640, .i32⟩
  | 42 => ⟨S16384x640, .i32⟩
  | 43 => ⟨S_, .i32⟩
  | 44 => ⟨S16384x640, .i32⟩
  | 45 => ⟨S16384x640, .i32⟩
  | 46 => ⟨S_, .i32⟩
  | 47 => ⟨S16384x640, .i32⟩
  | 48 => ⟨S16384x640, .i1⟩
  | 49 => ⟨S_, .i32⟩
  | 50 => ⟨S16384x640, .i32⟩
  | 51 => ⟨S16384x640, .i32⟩
  | 52 => ⟨S16384x640, .i32⟩
  | 53 => ⟨S16384x640, .f32⟩
  | 54 => ⟨S16384x640, .f32⟩
  | 55 => ⟨S16384x640, .f32⟩
  | 56 => ⟨S1x16384x640, .i32⟩
  | 57 => ⟨S16384x640, .i32⟩
  | 58 => ⟨S_, .i32⟩
  | 59 => ⟨S16384x640, .i32⟩
  | 60 => ⟨S16384x640, .i32⟩
  | 61 => ⟨S_, .i32⟩
  | 62 => ⟨S16384x640, .i32⟩
  | 63 => ⟨S16384x640, .i1⟩
  | 64 => ⟨S_, .i32⟩
  | 65 => ⟨S16384x640, .i32⟩
  | 66 => ⟨S16384x640, .i32⟩
  | 67 => ⟨S16384x640, .i32⟩
  | 68 => ⟨S16384x640, .f32⟩
  | 69 => ⟨S16384x640, .f32⟩
  | 70 => ⟨S16384x640, .f32⟩
  | 71 => ⟨S16384x640, .f32⟩
  | 72 => ⟨S16384x640, .f32⟩
  | 73 => ⟨S1x16384, .f32⟩
  | 74 => ⟨S16384, .f32⟩
  | 75 => ⟨S16384x1, .f32⟩
  | 76 => ⟨S1x16384x640, .i32⟩
  | 77 => ⟨S16384x640, .i32⟩
  | 78 => ⟨S_, .i32⟩
  | 79 => ⟨S16384x640, .i32⟩
  | 80 => ⟨S16384x640, .i32⟩
  | 81 => ⟨S_, .i32⟩
  | 82 => ⟨S16384x640, .i32⟩
  | 83 => ⟨S16384x640, .i1⟩
  | 84 => ⟨S_, .i32⟩
  | 85 => ⟨S16384x640, .i32⟩
  | 86 => ⟨S16384x640, .i32⟩
  | 87 => ⟨S16384x640, .i32⟩
  | 88 => ⟨S16384x640, .f32⟩
  | 89 => ⟨S16384x640, .f32⟩
  | 90 => ⟨S16384x640, .f32⟩
  | 91 => ⟨S1x16384x640, .i32⟩
  | 92 => ⟨S16384x640, .i32⟩
  | 93 => ⟨S_, .i32⟩
  | 94 => ⟨S16384x640, .i32⟩
  | 95 => ⟨S16384x640, .i32⟩
  | 96 => ⟨S_, .i32⟩
  | 97 => ⟨S16384x640, .i32⟩
  | 98 => ⟨S16384x640, .i1⟩
  | 99 => ⟨S_, .i32⟩
  | 100 => ⟨S16384x640, .i32⟩
  | 101 => ⟨S16384x640, .i32⟩
  | 102 => ⟨S16384x640, .i32⟩
  | 103 => ⟨S16384x640, .f32⟩
  | 104 => ⟨S16384x640, .f32⟩
  | 105 => ⟨S16384x640, .f32⟩
  | 106 => ⟨S16384x640, .f32⟩
  | 107 => ⟨S16384x640, .f32⟩
  | 108 => ⟨S16384x640x1, .f32⟩
  | 109 => ⟨S16384x640x1, .f32⟩
  | 110 => ⟨S16384x640x2, .f32⟩
  | 111 => ⟨S16384x1280, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x1280, .f32⟩
  | 121 => ⟨S16384x1280, .f32⟩
  | 122 => ⟨S16384x1280, .bf16⟩
  | 123 => ⟨S4x4096x1280, .bf16⟩
  | 124 => ⟨S4x7x1280, .bf16⟩
  | _ => ⟨S6x512x5x8x128, .i32⟩

abbrev hbmTy (i : Nat) : BufTy := match i / 128 with
  | 0 => hbmTy0_0 i
  | 1 => hbmTy0_1 i
  | _ => ⟨S6x512x5x8x128, .i32⟩

abbrev bufTy : (tb : Table) → Fin (tcTables nBuf tb) → BufTy
  | .hbm, ⟨i, _⟩ => hbmTy i
  | _, _ => ⟨S6x512x5x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_1 : Ref sig .tc := ⟨.hbm, 33, rfl⟩
abbrev main_v28 : Ref sig .tc := ⟨.hbm, 34, rfl⟩
abbrev main_v29 : Ref sig .tc := ⟨.hbm, 35, rfl⟩
abbrev main_c_2 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_4 : Ref sig .tc := ⟨.hbm, 48, rfl⟩
abbrev main_v40 : Ref sig .tc := ⟨.hbm, 49, rfl⟩
abbrev main_v41 : Ref sig .tc := ⟨.hbm, 50, rfl⟩
abbrev main_c_5 : Ref sig .tc := ⟨.hbm, 51, rfl⟩
abbrev main_v42 : Ref sig .tc := ⟨.hbm, 52, rfl⟩
abbrev main_v43 : Ref sig .tc := ⟨.hbm, 53, rfl⟩
abbrev main_c_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c_7 : Ref sig .tc := ⟨.hbm, 66, rfl⟩
abbrev main_v55 : Ref sig .tc := ⟨.hbm, 67, rfl⟩
abbrev main_v56 : Ref sig .tc := ⟨.hbm, 68, rfl⟩
abbrev main_c_8 : Ref sig .tc := ⟨.hbm, 69, rfl⟩
abbrev main_v57 : Ref sig .tc := ⟨.hbm, 70, rfl⟩
abbrev main_v58 : Ref sig .tc := ⟨.hbm, 71, rfl⟩
abbrev main_c_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_c_10 : Ref sig .tc := ⟨.hbm, 81, rfl⟩
abbrev main_v67 : Ref sig .tc := ⟨.hbm, 82, rfl⟩
abbrev main_v68 : Ref sig .tc := ⟨.hbm, 83, rfl⟩
abbrev main_c_11 : Ref sig .tc := ⟨.hbm, 84, rfl⟩
abbrev main_v69 : Ref sig .tc := ⟨.hbm, 85, rfl⟩
abbrev main_v70 : Ref sig .tc := ⟨.hbm, 86, rfl⟩
abbrev main_c_12 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_c_13 : Ref sig .tc := ⟨.hbm, 101, rfl⟩
abbrev main_v84 : Ref sig .tc := ⟨.hbm, 102, rfl⟩
abbrev main_v85 : Ref sig .tc := ⟨.hbm, 103, rfl⟩
abbrev main_c_14 : Ref sig .tc := ⟨.hbm, 104, rfl⟩
abbrev main_v86 : Ref sig .tc := ⟨.hbm, 105, rfl⟩
abbrev main_v87 : Ref sig .tc := ⟨.hbm, 106, rfl⟩
abbrev main_c_15 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c_16 : Ref sig .tc := ⟨.hbm, 116, rfl⟩
abbrev main_v96 : Ref sig .tc := ⟨.hbm, 117, rfl⟩
abbrev main_v97 : Ref sig .tc := ⟨.hbm, 118, rfl⟩
abbrev main_c_17 : Ref sig .tc := ⟨.hbm, 119, rfl⟩
abbrev main_v98 : Ref sig .tc := ⟨.hbm, 120, rfl⟩
abbrev main_v99 : Ref sig .tc := ⟨.hbm, 121, rfl⟩
abbrev main_c_18 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_c_19 : Ref sig .tc := ⟨.hbm, 136, rfl⟩
abbrev main_v113 : Ref sig .tc := ⟨.hbm, 137, rfl⟩
abbrev main_v114 : Ref sig .tc := ⟨.hbm, 138, rfl⟩
abbrev main_c_20 : Ref sig .tc := ⟨.hbm, 139, rfl⟩
abbrev main_v115 : Ref sig .tc := ⟨.hbm, 140, rfl⟩
abbrev main_v116 : Ref sig .tc := ⟨.hbm, 141, rfl⟩
abbrev main_c_21 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_c_22 : Ref sig .tc := ⟨.hbm, 151, rfl⟩
abbrev main_v125 : Ref sig .tc := ⟨.hbm, 152, rfl⟩
abbrev main_v126 : Ref sig .tc := ⟨.hbm, 153, rfl⟩
abbrev main_c_23 : Ref sig .tc := ⟨.hbm, 154, rfl⟩
abbrev main_v127 : Ref sig .tc := ⟨.hbm, 155, rfl⟩
abbrev main_v128 : Ref sig .tc := ⟨.hbm, 156, rfl⟩
abbrev main_c_24 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_c_25 : Ref sig .tc := ⟨.hbm, 171, rfl⟩
abbrev main_v142 : Ref sig .tc := ⟨.hbm, 172, rfl⟩
abbrev main_v143 : Ref sig .tc := ⟨.hbm, 173, rfl⟩
abbrev main_c_26 : Ref sig .tc := ⟨.hbm, 174, rfl⟩
abbrev main_v144 : Ref sig .tc := ⟨.hbm, 175, rfl⟩
abbrev main_v145 : Ref sig .tc := ⟨.hbm, 176, rfl⟩
abbrev main_c_27 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_c_28 : Ref sig .tc := ⟨.hbm, 186, rfl⟩
abbrev main_v154 : Ref sig .tc := ⟨.hbm, 187, rfl⟩
abbrev main_v155 : Ref sig .tc := ⟨.hbm, 188, rfl⟩
abbrev main_c_29 : Ref sig .tc := ⟨.hbm, 189, rfl⟩
abbrev main_v156 : Ref sig .tc := ⟨.hbm, 190, rfl⟩
abbrev main_v157 : Ref sig .tc := ⟨.hbm, 191, rfl⟩
abbrev main_c_30 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_c_31 : Ref sig .tc := ⟨.hbm, 206, rfl⟩
abbrev main_v171 : Ref sig .tc := ⟨.hbm, 207, rfl⟩
abbrev main_v172 : Ref sig .tc := ⟨.hbm, 208, rfl⟩
abbrev main_c_32 : Ref sig .tc := ⟨.hbm, 209, rfl⟩
abbrev main_v173 : Ref sig .tc := ⟨.hbm, 210, rfl⟩
abbrev main_v174 : Ref sig .tc := ⟨.hbm, 211, rfl⟩
abbrev main_c_33 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_c_34 : Ref sig .tc := ⟨.hbm, 221, rfl⟩
abbrev main_v183 : Ref sig .tc := ⟨.hbm, 222, rfl⟩
abbrev main_v184 : Ref sig .tc := ⟨.hbm, 223, rfl⟩
abbrev main_c_35 : Ref sig .tc := ⟨.hbm, 224, rfl⟩
abbrev main_v185 : Ref sig .tc := ⟨.hbm, 225, rfl⟩
abbrev main_v186 : Ref sig .tc := ⟨.hbm, 226, rfl⟩
abbrev main_c_36 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_c_37 : Ref sig .tc := ⟨.hbm, 240, rfl⟩
abbrev main_v199 : Ref sig .tc := ⟨.hbm, 241, rfl⟩
abbrev main_v200 : Ref sig .tc := ⟨.hbm, 242, rfl⟩
abbrev main_c_38 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩

abbrev nD : Nat := 1
abbrev τ : Topo := Topo.v7x

variable {F : FTy → Type} [FloatOps F]
-- ==== Proof.Value.lean ====
/- The array the call leaves, as one fold over the grid's points (the output and the carried scratch after each point), and
   the two results the host cuts out of it: the array by batch and position, and the first seven positions of each batch. -/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x1280 .bf16 × Vec F S3x256x1280 .bf16 :=
  ((VO0_3.read (Elt F) VO0_3.junk, VS0_0.read (Elt F) VS0_0.junk) : Vec F S256x1280 .bf16 × Vec F S3x256x1280 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x1280 .bf16 × Vec F S3x256x1280 .bf16) : Vec F S256x1280 .bf16 × Vec F S3x256x1280 .bf16 :=
  if h0 : n % 64 = 0 then
    (out0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)))
  else
    (out0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2)

/-- `stAt0` at a point of case A: that case's contents. -/
theorem stAt0_A (c : Dev nD) (t : Fin cfg0.N) (acc : Vec F S256x1280 .bf16 × Vec F S3x256x1280 .bf16) (h0 : t.val % 64 = 0) :
    stAt0 m c t.val t.isLt acc = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)) :=
  (dif_pos h0).trans rfl

/-- `stAt0` at a point of case B: that case's contents, over `acc`. -/
theorem stAt0_B (c : Dev nD) (t : Fin cfg0.N) (acc : Vec F S256x1280 .bf16 × Vec F S3x256x1280 .bf16) (h0 : ¬t.val % 64 = 0) :
    stAt0 m c t.val t.isLt acc = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t) acc.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 3 -/

/-- The block of the array that holds index `i`, numbered in the order the points write the blocks back (one per point),
    `i`'s place in it, and the point that writes it back. -/
abbrev run3Of (i : S16384x1280.Idx) : ℕ := 1 * ((i 0).val / 256 - 0) + 1 * ((i 1).val / 1280 - 0)
set_option backward.proofsInPublic true in
abbrev loc3Of (i : S16384x1280.Idx) : S256x1280.Idx := fun a => match a with
  | ⟨0, _⟩ => ⟨(i 0).val % 256, Nat.mod_lt _ (by decide)⟩
  | ⟨1, _⟩ => ⟨(i 1).val % 1280, Nat.mod_lt _ (by decide)⟩
abbrev pt3Of (i : S16384x1280.Idx) : ℕ := run3Of i

/-- WHAT THE ARRAY ENDS HOLDING at index `i` inside the box the flushing blocks fill: output 3's component of the carried
    state's fold at the point that writes `i`'s block back, at `i`'s place in the block. `G3` states the array's contents
    only inside the box. -/
def G3 (c : Dev nD) : Buf (Elt F) ((c : Thread nD τ).loc main_v0) := fun i =>
  if h : pt3Of i < cfg0.N then
    (Pipeline.accAt (fun n h => stAt0 m c n h junk0) (stAt0 m c) 0 (pt3Of i) (by omega)).1 (loc3Of i)
  else V m c (Pipeline.arrRef spec0 3) i

/-- The printed index map, decided over the grid: output window 3's block indices stay in the box, and the block number
    read off them is the point's (`t`). -/
theorem idx_facts3 : ∀ t : Fin cfg0.N, 0 ≤ win0_3.index t (0 : Fin 2) ∧ win0_3.index t (0 : Fin 2) ≤ 63
    ∧ 0 ≤ win0_3.index t (1 : Fin 2) ∧ win0_3.index t (1 : Fin 2) ≤ 0
    ∧ 1 * (win0_3.index t (0 : Fin 2) - 0) + 1 * (win0_3.index t (1 : Fin 2) - 0) = t.val :=
  (by decide +kernel : ∀ t : Fin grid0.N, _)

/-- Every block of the box is SOME flushing point's: `onto3Pt`, the point that writes back the block at place `q` of the box. -/
abbrev onto3Pt (q0 : Fin 64) (q1 : Fin 1) : Fin grid0.N :=
  ⟨1 * q0.val + 1 * q1.val, lt_of_lt_of_eq (by omega) N_0.symm⟩
theorem idx_onto3 : ∀ (q0 : Fin 64) (q1 : Fin 1), ∃ t : Fin cfg0.N, (cfg0.win 3).flush t = true ∧ win0_3.index t = ![q0.val + 0, q1.val + 0] :=
  fun q0 q1 => ⟨onto3Pt q0 q1, (by decide +kernel : ∀ (q0 : Fin 64) (q1 : Fin 1), win0_3.flush (onto3Pt q0 q1) = true ∧ win0_3.index (onto3Pt q0 q1) = ![q0.val + 0, q1.val + 0]) q0 q1⟩

/-- WHAT A FLUSHING POINT `t` WRITES BACK is block `t` of `G3`: output 3's component of the fold up to `t`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt0_sweep]
  obtain ⟨e0, e1, e2⟩ := idx_facts3 t
  funext y
  have hy0 : (y 0).val < 256 := (y 0).isLt
  have hy1 : (y 1).val < 1280 := (y 1).isLt
  have hb0 : (((cfg0.win 3).blk t).view.emb y 0).val = win0_3.index t (0 : Fin 2) * 256 + 1 * (y 0).val := rfl
  have hb1 : (((cfg0.win 3).blk t).view.emb y 1).val = win0_3.index t (1 : Fin 2) * 1280 + 1 * (y 1).val := rfl
  have hr : run3Of (((cfg0.win 3).blk t).view.emb y) = t.val := by
    show 1 * ((((cfg0.win 3).blk t).view.emb y 0).val / 256 - 0) + 1 * ((((cfg0.win 3).blk t).view.emb y 1).val / 1280 - 0) = _
    rw [hb0, hb1]
    rw [show (win0_3.index t (0 : Fin 2) * 256 + 1 * (y 0).val) / 256 = win0_3.index t (0 : Fin 2) from by omega]; rw [show (win0_3.index t (1 : Fin 2) * 1280 + 1 * (y 1).val) / 1280 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 256 = (y 0).val; rw [hb0]; omega
    | ⟨1, _⟩ => show (((cfg0.win 3).blk t).view.emb y 1).val % 1280 = (y 1).val; rw [hb1]; omega
  have hp : pt3Of (((cfg0.win 3).blk t).view.emb y) = t.val := by
    exact hr
  show (Pipeline.accAt (fun n h => stAt0 m c n h junk0) (stAt0 m c) 0 t.val _).1 ((cfg0.win 3).xinj (grid0.coords t) y) = G3 m c (((cfg0.win 3).blk t).view.emb y)
  unfold G3
  rw [dif_pos (by rw [hp]; exact t.isLt), hl, fold0_congr m c _ _ _ _ hp.symm]

/-- An index of the array is in point `t`'s block iff each coordinate is in the block's range on its axis. -/
theorem mem_blk3 (t : Fin cfg0.N) (i : S16384x1280.Idx) :
    i ∈ ((cfg0.win 3).blk t).view.set ↔ ∀ a : Fin 2, win0_3.index t a * S256x1280.size a ≤ (i a).val ∧ (i a).val < win0_3.index t a * S256x1280.size a + S256x1280.size a := by
  show i ∈ ((View.whole main_v0).slice (win0_3.rect t)).set ↔ _
  rw [View.set_slice_whole, Rect.mem_set_unit]
  exact Iff.rfl

/-- THE COVERED INDICES: in some flushing point's block iff inside the box those blocks fill. -/
theorem covered_iff3 (i : S16384x1280.Idx) :
    (∃ t : Fin cfg0.N, (cfg0.win 3).flush t = true ∧ i ∈ ((cfg0.win 3).blk t).view.set) ↔ 0 ≤ (i 0).val ∧ (i 0).val < 16384 ∧ 0 ≤ (i 1).val ∧ (i 1).val < 1280 := by
  constructor
  · rintro ⟨t, -, hi⟩
    rw [mem_blk3] at hi
    have b0 : win0_3.index t (0 : Fin 2) * 256 ≤ (i 0).val ∧ (i 0).val < win0_3.index t (0 : Fin 2) * 256 + 256 := hi 0
    have b1 : win0_3.index t (1 : Fin 2) * 1280 ≤ (i 1).val ∧ (i 1).val < win0_3.index t (1 : Fin 2) * 1280 + 1280 := hi 1
    obtain ⟨e0, e1, e2⟩ := idx_facts3 t
    omega
  · intro h
    have hi0 : (i 0).val < 16384 := (i 0).isLt
    have hi1 : (i 1).val < 1280 := (i 1).isLt
    obtain ⟨t, hft, ht⟩ := idx_onto3 ⟨(i 0).val / 256 - 0, by omega⟩ ⟨(i 1).val / 1280 - 0, by omega⟩
    have q0 : win0_3.index t (0 : Fin 2) = (i 0).val / 256 - 0 + 0 := congrFun ht 0
    have q1 : win0_3.index t (1 : Fin 2) = (i 1).val / 1280 - 0 + 0 := congrFun ht 1
    refine ⟨t, hft, ?_⟩
    rw [mem_blk3]
    intro a
    match a with
    | ⟨0, _⟩ => show win0_3.index t (0 : Fin 2) * 256 ≤ (i 0).val ∧ (i 0).val < win0_3.index t (0 : Fin 2) * 256 + 256; omega
    | ⟨1, _⟩ => show win0_3.index t (1 : Fin 2) * 1280 ≤ (i 1).val ∧ (i 1).val < win0_3.index t (1 : Fin 2) * 1280 + 1280; omega

/-- THE ARRAY after the run: `G3` (the flushing blocks tile it). -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 16384 := (i 0).isLt; have h1 : (i 1).val < 1280 := (i 1).isLt; omega))

/-! ## The run, and the two results read off the array -/

/-- The call's array with a batch axis. -/
def emb (c : Dev nD) : Buf (Elt F) ((c : Thread nD τ).loc main_v1) :=
  shapeCast S4x4096x1280 (G3 m c : Vec F S16384x1280 .bf16) shapeCasts_S16384x1280_S4x4096x1280

/-- Its first seven positions of each batch. -/
def headEmb (c : Dev nD) : Buf (Elt F) ((c : Thread nD τ).loc main_v2) :=
  extractStridedSlice S4x7x1280 ![0, 0, 0] (emb m c : Vec F S4x4096x1280 .bf16) slices_S4x4096x1280_S4x7x1280_0_0_0

/-- What the host's lines after the call read: the call's array. -/
theorem exit_v0 (c : Dev nD) :
    Pipeline.withArrays spec0 c (V0 m c) (fun w => (dats m 0 c).arrAt w cfg0.N) (Proc.devRef .tc main_v0) = G3 m c :=
  (Pipeline.withArrays_arr spec0 (by decide) c (V0 m c) (fun w => (dats m 0 c).arrAt w cfg0.N) 3).trans (final3 m c)

/-- After the host's lines: the reshaped array. -/
theorem tail_v1 (c : Dev nD) : Pipeline.afterTail₀ cfgs (dats m) 0 (V0 m) [hostOps1] c main_v1 = emb m c := by
  unfold Pipeline.afterTail₀ emb
  rw [← exit_v0 m c]
  generalize Pipeline.withArrays _ c _ _ = W
  simp only [hostOps1, List.flatten_cons, List.flatten_nil, List.append_nil]
  after_results_simp
  rfl

/-- After the host's lines: its first positions. -/
theorem tail_v2 (c : Dev nD) : Pipeline.afterTail₀ cfgs (dats m) 0 (V0 m) [hostOps1] c main_v2 = headEmb m c := by
  unfold Pipeline.afterTail₀ headEmb emb
  rw [← exit_v0 m c]
  generalize Pipeline.withArrays _ c _ _ = W
  simp only [hostOps1, List.flatten_cons, List.flatten_nil, List.append_nil]
  after_results_simp
  rfl

/-- The run leaves both results, and the arguments as they were. -/
theorem run : θ_run defs (onTc (τ := τ) (main (F := F))) ⟨m, fun _ => 0, ρ⟩ fun r => ∀ c : Dev nD,
      r.2.mem ((c : Thread nD τ).loc main_v1) = emb m c
      ∧ r.2.mem ((c : Thread nD τ).loc main_v2) = headEmb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v1 (by decide)).trans (tail_v1 m c),
      ((h c).2 main_v2 (by decide)).trans (tail_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Value

end
-- ==== Proof.Tile.lean ====
module

public import proofs.«01_k».proof.Proof.Value
public import Idealize.ShloMosaic.Lib.Pipeline.ReadBack
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem

variable {F : FTy → Type} [FloatOps F]

/-- Column `c` of a register, spread over all its lanes. -/
def colV (x : FVec F S8x128 .f32) (c : ℕ) (h : S8x128.Slices ![0, c] S8x1) : FVec F S8x128 .f32 :=
  broadcastTo S8x128 (shapeCast S8x1 (extractStridedSlice S8x1 ![0, c] x h) shapeCasts_S8x1_S8x1) broadcasts_S8x1_S8x128

/-- A register of words with the sign bits of the eight nibbles turned over. -/
def wX (p : Vec F S1x1x1x8x128 .i32) : IVec S8x128 32 :=
  xori (shapeCast S8x128 p shapeCasts_S1x1x1x8x128_S8x128) (broadcast S8x128 2290649224#32)

/-- … shifted down by one nibble. -/
def wY (p : Vec F S1x1x1x8x128 .i32) : IVec S8x128 32 := shrui (wX (F := F) p) (broadcast S8x128 4#32)

/-- One accumulator of the loop: the byte row, the bias, and six nibbles times their scales. -/
def accV (mask bc : BitVec 32) (b s0 s1 s2 s3 s4 s5 : FVec F S8x128 .f32) (w0 w1 w2 w3 w4 w5 : IVec S8x128 32) : FVec F S8x128 .f32 :=
  addf (addf (addf (addf (addf (addf
    (addf b (mulf (addf (addf (addf (addf (addf s0 s1) s2) s3) s4) s5) (broadcast S8x128 (Scalar.ofBits .f32 bc))))
    (mulf (sitofp .f32 (andi w0 (broadcast S8x128 mask))) s0))
    (mulf (sitofp .f32 (andi w1 (broadcast S8x128 mask))) s1))
    (mulf (sitofp .f32 (andi w2 (broadcast S8x128 mask))) s2))
    (mulf (sitofp .f32 (andi w3 (broadcast S8x128 mask))) s3))
    (mulf (sitofp .f32 (andi w4 (broadcast S8x128 mask))) s4))
    (mulf (sitofp .f32 (andi w5 (broadcast S8x128 mask))) s5)

/-- The accumulator of byte 0 of the words. -/
def acc0 (x b : FVec F S8x128 .f32) (w0 w1 w2 w3 w4 w5 : IVec S8x128 32) : FVec F S8x128 .f32 :=
  accV 15#32 0xC1000000#32 b (colV x 0 slices_S8x128_o0_0_S8x1) (colV x 4 slices_S8x128_o0_4_S8x1) (colV x 8 slices_S8x128_o0_8_S8x1)
    (colV x 12 slices_S8x128_o0_12_S8x1) (colV x 16 slices_S8x128_o0_16_S8x1) (colV x 20 slices_S8x128_o0_20_S8x1) w0 w1 w2 w3 w4 w5

/-- The accumulator of byte 1 of the words. -/
def acc1 (x b : FVec F S8x128 .f32) (w0 w1 w2 w3 w4 w5 : IVec S8x128 32) : FVec F S8x128 .f32 :=
  accV 3840#32 0xC5000000#32 b (colV x 1 slices_S8x128_o0_1_S8x1) (colV x 5 slices_S8x128_o0_5_S8x1) (colV x 9 slices_S8x128_o0_9_S8x1)
    (colV x 13 slices_S8x128_o0_13_S8x1) (colV x 17 slices_S8x128_o0_17_S8x1) (colV x 21 slices_S8x128_o0_21_S8x1) w0 w1 w2 w3 w4 w5

/-- The accumulator of byte 2 of the words. -/
def acc2 (x b : FVec F S8x128 .f32) (w0 w1 w2 w3 w4 w5 : IVec S8x128 32) : FVec F S8x128 .f32 :=
  accV 983040#32 0xC9000000#32 b (colV x 2 slices_S8x128_o0_2_S8x1) (colV x 6 slices_S8x128_o0_6_S8x1) (colV x 10 slices_S8x128_o0_10_S8x1)
    (colV x 14 slices_S8x128_o0_14_S8x1) (colV x 18 slices_S8x128_o0_18_S8x1) (colV x 22 slices_S8x128_o0_22_S8x1) w0 w1 w2 w3 w4 w5

/-- The accumulator of byte 3 of the words. -/
def acc3 (x b : FVec F S8x128 .f32) (w0 w1 w2 w3 w4 w5 : IVec S8x128 32) : FVec F S8x128 .f32 :=
  accV 251658240#32 0xCD000000#32 b (colV x 3 slices_S8x128_o0_3_S8x1) (colV x 7 slices_S8x128_o0_7_S8x1) (colV x 11 slices_S8x128_o0_11_S8x1)
    (colV x 15 slices_S8x128_o0_15_S8x1) (colV x 19 slices_S8x128_o0_19_S8x1) (colV x 23 slices_S8x128_o0_23_S8x1) w0 w1 w2 w3 w4 w5

/-- The first of a tile's two stores: even lanes from the low nibbles, odd lanes from the high ones one lane down. -/
def storeV0 (v4 : IVec S8x128 1) (elo ehi olo ohi : FVec F S8x128 .f32) : FVec F S16x128 .bf16 :=
  interleaveRows S16x128
    (select v4 (truncf .bf16 elo) (dynamicRotate 1 1#32 none (truncf .bf16 olo : FVec F S8x128 .bf16) rotates_S8x128_d1))
    (select v4 (truncf .bf16 ehi) (dynamicRotate 1 1#32 none (truncf .bf16 ohi : FVec F S8x128 .bf16) rotates_S8x128_d1))
    bitcasts_S16x128_w16_S8x128_w32

/-- The second of a tile's two stores: odd lanes from the high nibbles, even lanes from the low ones one lane up. -/
def storeV1 (v4 : IVec S8x128 1) (elo ehi olo ohi : FVec F S8x128 .f32) : FVec F S16x128 .bf16 :=
  interleaveRows S16x128
    (select v4 (dynamicRotate 1 127#32 none (truncf .bf16 elo : FVec F S8x128 .bf16) rotates_S8x128_d1) (truncf .bf16 olo))
    (select v4 (dynamicRotate 1 127#32 none (truncf .bf16 ehi : FVec F S8x128 .bf16) rotates_S8x128_d1) (truncf .bf16 ohi))
    bitcasts_S16x128_w16_S8x128_w32

/-- What the loop stores for the first half of a tile, first store. -/
def tile00 (v4 : IVec S8x128 1) (x e0 e1 o0 o1 : FVec F S8x128 .f32) (p0 p1 p2 p3 p4 p5 : Vec F S1x1x1x8x128 .i32) : FVec F S16x128 .bf16 :=
  storeV0 v4 (acc0 x e0 (wX (F := F) p0) (wX (F := F) p1) (wX (F := F) p2) (wX (F := F) p3) (wX (F := F) p4) (wX (F := F) p5))
    (acc1 x e1 (wX (F := F) p0) (wX (F := F) p1) (wX (F := F) p2) (wX (F := F) p3) (wX (F := F) p4) (wX (F := F) p5))
    (acc0 x o0 (wY (F := F) p0) (wY (F := F) p1) (wY (F := F) p2) (wY (F := F) p3) (wY (F := F) p4) (wY (F := F) p5))
    (acc1 x o1 (wY (F := F) p0) (wY (F := F) p1) (wY (F := F) p2) (wY (F := F) p3) (wY (F := F) p4) (wY (F := F) p5))

/-- … the first half, second store. -/
def tile01 (v4 : IVec S8x128 1) (x e0 e1 o0 o1 : FVec F S8x128 .f32) (p0 p1 p2 p3 p4 p5 : Vec F S1x1x1x8x128 .i32) : FVec F S16x128 .bf16 :=
  storeV1 v4 (acc0 x e0 (wX (F := F) p0) (wX (F := F) p1) (wX (F := F) p2) (wX (F := F) p3) (wX (F := F) p4) (wX (F := F) p5))
    (acc1 x e1 (wX (F := F) p0) (wX (F := F) p1) (wX (F := F) p2) (wX (F := F) p3) (wX (F := F) p4) (wX (F := F) p5))
    (acc0 x o0 (wY (F := F) p0) (wY (F := F) p1) (wY (F := F) p2) (wY (F := F) p3) (wY (F := F) p4) (wY (F := F) p5))
    (acc1 x o1 (wY (F := F) p0) (wY (F := F) p1) (wY (F := F) p2) (wY (F := F) p3) (wY (F := F) p4) (wY (F := F) p5))

/-- … the second half, first store. -/
def tile10 (v4 : IVec S8x128 1) (x e0 e1 o0 o1 : FVec F S8x128 .f32) (p0 p1 p2 p3 p4 p5 : Vec F S1x1x1x8x128 .i32) : FVec F S16x128 .bf16 :=
  storeV0 v4 (acc2 x e0 (wX (F := F) p0) (wX (F := F) p1) (wX (F := F) p2) (wX (F := F) p3) (wX (F := F) p4) (wX (F := F) p5))
    (acc3 x e1 (wX (F := F) p0) (wX (F := F) p1) (wX (F := F) p2) (wX (F := F) p3) (wX (F := F) p4) (wX (F := F) p5))
    (acc2 x o0 (wY (F := F) p0) (wY (F := F) p1) (wY (F := F) p2) (wY (F := F) p3) (wY (F := F) p4) (wY (F := F) p5))
    (acc3 x o1 (wY (F := F) p0) (wY (F := F) p1) (wY (F := F) p2) (wY (F := F) p3) (wY (F := F) p4) (wY (F := F) p5))

/-- … the second half, second store. -/
def tile11 (v4 : IVec S8x128 1) (x e0 e1 o0 o1 : FVec F S8x128 .f32) (p0 p1 p2 p3 p4 p5 : Vec F S1x1x1x8x128 .i32) : FVec F S16x128 .bf16 :=
  storeV1 v4 (acc2 x e0 (wX (F := F) p0) (wX (F := F) p1) (wX (F := F) p2) (wX (F := F) p3) (wX (F := F) p4) (wX (F := F) p5))
    (acc3 x e1 (wX (F := F) p0) (wX (F := F) p1) (wX (F := F) p2) (wX (F := F) p3) (wX (F := F) p4) (wX (F := F) p5))
    (acc2 x o0 (wY (F := F) p0) (wY (F := F) p1) (wY (F := F) p2) (wY (F := F) p3) (wY (F := F) p4) (wY (F := F) p5))
    (acc3 x o1 (wY (F := F) p0) (wY (F := F) p1) (wY (F := F) p2) (wY (F := F) p3) (wY (F := F) p4) (wY (F := F) p5))

/-- The eight sublanes of words that a tile of the loop reads from one table's rows. -/
def ldW (arg1 : Memref sig .tc .vmem S6x8x5x8x128 .i32) (X : BufTy.Contents (Elt F) arg1.view.ty) (off : Fin 5 → ℕ)
    (h : ∀ a, off a + S1x1x1x8x128.size a ≤ S6x8x5x8x128.size a) : Vec F S1x1x1x8x128 .i32 :=
  View.readAt (Elt F) arg1.view (Rect.unit (s := S6x8x5x8x128) off S1x1x1x8x128.size h).toLoadRect X

/-- A register of byte rows the loop reads. -/
def ldB (arg6 : Memref sig .tc .vmem S256x1280 .f32) (X : BufTy.Contents (Elt F) arg6.view.ty) (off : Fin 2 → ℕ)
    (h : ∀ a, off a + S8x128.size a ≤ S256x1280.size a) : FVec F S8x128 .f32 :=
  View.readAt (Elt F) arg6.view (Rect.unit (s := S256x1280) off S8x128.size h).toLoadRect X

/-- The register of scales and ids the trip reads. -/
def ldS (arg2 : Memref sig .tc .vmem S64x128 .f32) (X : BufTy.Contents (Elt F) arg2.view.ty) (k : Fin k0_t1_loop.trips) : FVec F S8x128 .f32 :=
  View.readAt (Elt F) arg2.view (Rect.unit (s := S64x128) (k0_off1 k) S8x128.size (k0_off1_inb k)).toLoadRect X

end Cert.KernelIdeal.Val
-- ==== Proof.TripList.lean ====
module

public import proofs.«01_k».proof.Proof.Tile

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- The four stores of one column tile, last first. -/
abbrev fourPieces (v4 : IVec S8x128 1) (x e0 e1 e2 e3 o0 o1 o2 o3 : FVec F S8x128 .f32) (p0 p1 p2 p3 p4 p5 : Vec F S1x1x1x8x128 .i32)
    (A0 A1 B0 B1 : Fin 2 → ℕ) (hA0 : ∀ a, A0 a + S16x128.size a ≤ S256x1280.size a) (hA1 : ∀ a, A1 a + S16x128.size a ≤ S256x1280.size a)
    (hB0 : ∀ a, B0 a + S16x128.size a ≤ S256x1280.size a) (hB1 : ∀ a, B1 a + S16x128.size a ≤ S256x1280.size a)
    (L : List (View.Piece (Elt F) S256x1280 .bf16)) : List (View.Piece (Elt F) S256x1280 .bf16) :=
  ⟨Rect.unit (s := S256x1280) B1 S16x128.size hB1, tile11 v4 x e2 e3 o2 o3 p0 p1 p2 p3 p4 p5⟩ ::
  ⟨Rect.unit (s := S256x1280) A1 S16x128.size hA1, tile10 v4 x e2 e3 o2 o3 p0 p1 p2 p3 p4 p5⟩ ::
  ⟨Rect.unit (s := S256x1280) B0 S16x128.size hB0, tile01 v4 x e0 e1 o0 o1 p0 p1 p2 p3 p4 p5⟩ ::
  ⟨Rect.unit (s := S256x1280) A0 S16x128.size hA0, tile00 v4 x e0 e1 o0 o1 p0 p1 p2 p3 p4 p5⟩ :: L

/-- A trip's twenty stores, told by the tiles. -/
theorem trip_eq (𝒱 : Variants) (c : Dev nD) (bd : Option 𝒱.V) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (v0 : IVec S8x128 32) (v4 : IVec S8x128 1)
    (X1 : BufTy.Contents (Elt F) arg1.view.ty) (X2 : BufTy.Contents (Elt F) arg2.view.ty) (X6 : BufTy.Contents (Elt F) arg6.view.ty) (k : Fin k0_t1_loop.trips) :
    tripL_k0_t1 (F := F) 𝒱 c bd i arg1 harg1 arg2 harg2 arg3 harg3 arg4 harg4 arg5 harg5 arg6 harg6 v0 v4 X1 X2 X6 k =
    (fourPieces v4 (k0_pay75 v0 (ldS arg2 X2 k))
      (ldB arg6 X6 (k0_off42 k 0#32) (k0_off42_inb k 0)) (ldB arg6 X6 (k0_off42 k 8#32) (k0_off42_inb k 1)) (ldB arg6 X6 (k0_off42 k 16#32) (k0_off42_inb k 2)) (ldB arg6 X6 (k0_off42 k 24#32) (k0_off42_inb k 3))
      (ldB arg6 X6 (k0_off43 k 0#32) (k0_off43_inb k 0)) (ldB arg6 X6 (k0_off43 k 8#32) (k0_off43_inb k 1)) (ldB arg6 X6 (k0_off43 k 16#32) (k0_off43_inb k 2)) (ldB arg6 X6 (k0_off43 k 24#32) (k0_off43_inb k 3))
      (ldW arg1 X1 (k0_off44 k) (k0_off44_inb k)) (ldW arg1 X1 (k0_off45 k) (k0_off45_inb k)) (ldW arg1 X1 (k0_off46 k) (k0_off46_inb k)) (ldW arg1 X1 (k0_off47 k) (k0_off47_inb k)) (ldW arg1 X1 (k0_off48 k) (k0_off48_inb k)) (ldW arg1 X1 (k0_off49 k) (k0_off49_inb k))
      (k0_off50 k 0#32) (k0_off50 k 16#32) (k0_off51 k 0#32) (k0_off51 k 16#32) (k0_off50_inb k 0) (k0_off50_inb k 1) (k0_off51_inb k 0) (k0_off51_inb k 1) <|
    fourPieces v4 (k0_pay75 v0 (ldS arg2 X2 k))
      (ldB arg6 X6 (k0_off32 k 0#32) (k0_off32_inb k 0)) (ldB arg6 X6 (k0_off32 k 8#32) (k0_off32_inb k 1)) (ldB arg6 X6 (k0_off32 k 16#32) (k0_off32_inb k 2)) (ldB arg6 X6 (k0_off32 k 24#32) (k0_off32_inb k 3))
      (ldB arg6 X6 (k0_off33 k 0#32) (k0_off33_inb k 0)) (ldB arg6 X6 (k0_off33 k 8#32) (k0_off33_inb k 1)) (ldB arg6 X6 (k0_off33 k 16#32) (k0_off33_inb k 2)) (ldB arg6 X6 (k0_off33 k 24#32) (k0_off33_inb k 3))
      (ldW arg1 X1 (k0_off34 k) (k0_off34_inb k)) (ldW arg1 X1 (k0_off35 k) (k0_off35_inb k)) (ldW arg1 X1 (k0_off36 k) (k0_off36_inb k)) (ldW arg1 X1 (k0_off37 k) (k0_off37_inb k)) (ldW arg1 X1 (k0_off38 k) (k0_off38_inb k)) (ldW arg1 X1 (k0_off39 k) (k0_off39_inb k))
      (k0_off40 k 0#32) (k0_off40 k 16#32) (k0_off41 k 0#32) (k0_off41 k 16#32) (k0_off40_inb k 0) (k0_off40_inb k 1) (k0_off41_inb k 0) (k0_off41_inb k 1) <|
    fourPieces v4 (k0_pay75 v0 (ldS arg2 X2 k))
      (ldB arg6 X6 (k0_off22 k 0#32) (k0_off22_inb k 0)) (ldB arg6 X6 (k0_off22 k 8#32) (k0_off22_inb k 1)) (ldB arg6 X6 (k0_off22 k 16#32) (k0_off22_inb k 2)) (ldB arg6 X6 (k0_off22 k 24#32) (k0_off22_inb k 3))
      (ldB arg6 X6 (k0_off23 k 0#32) (k0_off23_inb k 0)) (ldB arg6 X6 (k0_off23 k 8#32) (k0_off23_inb k 1)) (ldB arg6 X6 (k0_off23 k 16#32) (k0_off23_inb k 2)) (ldB arg6 X6 (k0_off23 k 24#32) (k0_off23_inb k 3))
      (ldW arg1 X1 (k0_off24 k) (k0_off24_inb k)) (ldW arg1 X1 (k0_off25 k) (k0_off25_inb k)) (ldW arg1 X1 (k0_off26 k) (k0_off26_inb k)) (ldW arg1 X1 (k0_off27 k) (k0_off27_inb k)) (ldW arg1 X1 (k0_off28 k) (k0_off28_inb k)) (ldW arg1 X1 (k0_off29 k) (k0_off29_inb k))
      (k0_off30 k 0#32) (k0_off30 k 16#32) (k0_off31 k 0#32) (k0_off31 k 16#32) (k0_off30_inb k 0) (k0_off30_inb k 1) (k0_off31_inb k 0) (k0_off31_inb k 1) <|
    fourPieces v4 (k0_pay75 v0 (ldS arg2 X2 k))
      (ldB arg6 X6 (k0_off12 k 0#32) (k0_off12_inb k 0)) (ldB arg6 X6 (k0_off12 k 8#32) (k0_off12_inb k 1)) (ldB arg6 X6 (k0_off12 k 16#32) (k0_off12_inb k 2)) (ldB arg6 X6 (k0_off12 k 24#32) (k0_off12_inb k 3))
      (ldB arg6 X6 (k0_off13 k 0#32) (k0_off13_inb k 0)) (ldB arg6 X6 (k0_off13 k 8#32) (k0_off13_inb k 1)) (ldB arg6 X6 (k0_off13 k 16#32) (k0_off13_inb k 2)) (ldB arg6 X6 (k0_off13 k 24#32) (k0_off13_inb k 3))
      (ldW arg1 X1 (k0_off14 k) (k0_off14_inb k)) (ldW arg1 X1 (k0_off15 k) (k0_off15_inb k)) (ldW arg1 X1 (k0_off16 k) (k0_off16_inb k)) (ldW arg1 X1 (k0_off17 k) (k0_off17_inb k)) (ldW arg1 X1 (k0_off18 k) (k0_off18_inb k)) (ldW arg1 X1 (k0_off19 k) (k0_off19_inb k))
      (k0_off20 k 0#32) (k0_off20 k 16#32) (k0_off21 k 0#32) (k0_off21 k 16#32) (k0_off20_inb k 0) (k0_off20_inb k 1) (k0_off21_inb k 0) (k0_off21_inb k 1) <|
    fourPieces v4 (k0_pay75 v0 (ldS arg2 X2 k))
      (ldB arg6 X6 (k0_off2 k 0#32) (k0_off2_inb k 0)) (ldB arg6 X6 (k0_off2 k 8#32) (k0_off2_inb k 1)) (ldB arg6 X6 (k0_off2 k 16#32) (k0_off2_inb k 2)) (ldB arg6 X6 (k0_off2 k 24#32) (k0_off2_inb k 3))
      (ldB arg6 X6 (k0_off3 k 0#32) (k0_off3_inb k 0)) (ldB arg6 X6 (k0_off3 k 8#32) (k0_off3_inb k 1)) (ldB arg6 X6 (k0_off3 k 16#32) (k0_off3_inb k 2)) (ldB arg6 X6 (k0_off3 k 24#32) (k0_off3_inb k 3))
      (ldW arg1 X1 (k0_off4 k) (k0_off4_inb k)) (ldW arg1 X1 (k0_off5 k) (k0_off5_inb k)) (ldW arg1 X1 (k0_off6 k) (k0_off6_inb k)) (ldW arg1 X1 (k0_off7 k) (k0_off7_inb k)) (ldW arg1 X1 (k0_off8 k) (k0_off8_inb k)) (ldW arg1 X1 (k0_off9 k) (k0_off9_inb k))
      (k0_off10 k 0#32) (k0_off10 k 16#32) (k0_off11 k 0#32) (k0_off11 k 16#32) (k0_off10_inb k 0) (k0_off10_inb k 1) (k0_off11_inb k 0) (k0_off11_inb k 1) []) := by
  unfold tripL_k0_t1 trip_k0_t1
  dsimp only
  rfl

end Cert.KernelIdeal.Val
-- ==== Proof.Bytes.lean ====
module

public import proofs.«01_k».proof.Proof.TripList

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- Eight rows of the one-hot matrix: at row `r`, a one at the byte id that column `c` of row `r` of the side block holds. -/
def ohV (x : FVec F S8x128 .f32) (c : ℕ) (h : S8x128.Slices ![0, c] S8x1) : FVec F S8x256 .f32 :=
  select (cmpf .oeq k0_pay518 (broadcastTo S8x256 (extractStridedSlice S8x1 ![0, c] x h) broadcasts_S8x1_S8x256))
    (broadcast S8x256 (Scalar.ofBits .f32 0x3F800000#32)) (broadcast S8x256 (Scalar.ofBits .f32 0x00000000#32))

/-- Columns 24 to 27 are columns of the side block. -/
theorem ohV_slices (j : Fin 4) : S8x128.Slices ![0, 24 + j.val] S8x1 := by revert j; decide

/-- Rows `8 b` to `8 b + 7` of the side block lie in it. -/
theorem ldX_inb (b : Fin 8) : ∀ a, (![8 * b.val, 0] : Fin 2 → ℕ) a + S8x128.size a ≤ S64x128.size a := by revert b; decide

/-- Eight rows of the side block. -/
def ldX (arg2 : Memref sig .tc .vmem S64x128 .f32) (X2 : BufTy.Contents (Elt F) arg2.view.ty) (b : Fin 8) : FVec F S8x128 .f32 :=
  View.readAt (Elt F) arg2.view (Rect.unit (s := S64x128) ![8 * b.val, 0] S8x128.size (ldX_inb b)).toLoadRect X2

/-- The one-hot matrix, stacked from 32 pieces of eight rows. -/
def ohRows (x : Fin 8 → FVec F S8x128 .f32) (q : Fin 32) : FVec F S8x256 .f32 :=
  ohV (x (Fin.ofNat 8 (q.val / 4))) (24 + (Fin.ofNat 4 q.val).val) (ohV_slices _)

/-- 32 pieces of eight rows stack to 256 rows. -/
theorem ohCat_conc (x : Fin 8 → FVec F S8x128 .f32) :
    Shape.Concatenates ((List.ofFn fun n : Fin 32 => (⟨S8x256, ohRows x n⟩ : (s : Shape) × (s.Idx → F .f32))).map (·.1)) S256x256 0 :=
  concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- The one-hot matrix. -/
def ohCat (x : Fin 8 → FVec F S8x128 .f32) : FVec F S256x256 .bf16 :=
  truncf .bf16 (concatenate S256x256 0 (List.ofFn fun n : Fin 32 => (⟨S8x256, ohRows x n⟩ : (s : Shape) × (s.Idx → F .f32))) (ohCat_conc x)) bitsLt_bf16_f32

/-- One of the three parts of the table, as the products read it. -/
def ldQ (arg5 : Memref sig .tc .vmem S3x256x1280 .bf16) (X5 : BufTy.Contents (Elt F) arg5.view.ty) (p : ℕ)
    (h : ∀ a, (![p, 0, 0] : Fin 3 → ℕ) a + S1x256x1280.size a ≤ S3x256x1280.size a) : FVec F S1x256x1280 .bf16 :=
  View.readAt (Elt F) arg5.view (Rect.unit (s := S3x256x1280) ![p, 0, 0] ![1, 256, 1280] h).toLoadRect X5

/-- The byte rows of a block: the one-hot matrix times the three parts. -/
def bytesOf (arg2 : Memref sig .tc .vmem S64x128 .f32) (X2 : BufTy.Contents (Elt F) arg2.view.ty)
    (arg5 : Memref sig .tc .vmem S3x256x1280 .bf16) (X5 : BufTy.Contents (Elt F) arg5.view.ty) : FVec F S256x1280 .f32 :=
  k0_pay1 (ohCat (ldX arg2 X2)) (ldQ arg5 X5 0 inb_S3x256x1280_S1x256x1280_0_0_0) (ldQ arg5 X5 1 inb_S3x256x1280_S1x256x1280_1_0_0) (ldQ arg5 X5 2 inb_S3x256x1280_S1x256x1280_2_0_0)

theorem HS1_B (c : Dev nD) (arg2 : Memref sig .tc .vmem S64x128 .f32) (harg2 : arg2.IsWhole) (arg5 : Memref sig .tc .vmem S3x256x1280 .bf16) (harg5 : arg5.IsWhole) (x1 xs0) :
    kernelRun0_B.sl.HS1_1 (F := F) c arg2 harg2 arg5 harg5 x1 xs0 =
      [⟨Rect.unit (s := S256x1280) ![0, 0] ![256, 1280] inb_S256x1280_S256x1280_0_0, bytesOf arg2 (harg2.unread x1) arg5 (harg5.unread xs0)⟩] := by
  sl_unfold_words
  rfl

/-- What a later grid point writes, as the trips' pieces over the byte rows of the carried parts. -/
theorem out_B (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0) (x0 x1 x2 xs0) :
    out0_B_3 (F := F) c i arg1 harg1 arg2 harg2 arg3 harg3 arg4 harg4 arg5 harg5 arg6 harg6 hc0 x0 x1 x2 xs0 =
      View.canon (pb_k0_t1 (F := F) Variants.none c none i arg1 harg1 arg2 harg2 arg3 harg3 arg4 harg4 arg5 harg5 arg6 harg6 (iota .tc S8x128 32 [1] iota_S8x128_d1_w32) k0_pay516 (harg1.unread x0) (harg2.unread x1)
        (arg6.view.writes (Elt F) arg6.view.junk [⟨Rect.unit (s := S256x1280) ![0, 0] ![256, 1280] inb_S256x1280_S256x1280_0_0, bytesOf arg2 (harg2.unread x1) arg5 (harg5.unread xs0)⟩]) k0_t1_loop.trips) := by
  unfold out0_B_3
  rw [View.read_writes_eq_canon _ _ _ (cover0_B_3 c i arg1 harg1 arg2 harg2 arg3 harg3 arg4 harg4 arg5 harg5 arg6 harg6 hc0 x0 x1 x2 xs0)]
  unfold kernelRun0_B
  dsimp only
  rw [HS1_B]
  rfl

/-- The first grid point's byte rows: of the parts it has just written. -/
theorem HS1_A (c : Dev nD) (arg2 : Memref sig .tc .vmem S64x128 .f32) (harg2 : arg2.IsWhole) (arg3 : Memref sig .tc .vmem S256x1280 .f32) (harg3 : arg3.IsWhole) (arg5 : Memref sig .tc .vmem S3x256x1280 .bf16) (x1 x2) :
    kernelRun0_A.sl.HS1_1 (F := F) c arg2 harg2 arg3 harg3 arg5 x1 x2 =
      [⟨Rect.unit (s := S256x1280) ![0, 0] ![256, 1280] inb_S256x1280_S256x1280_0_0, bytesOf arg2 (harg2.unread x1) arg5
        (arg5.view.writes (Elt F) arg5.view.junk (kernelRun0_A.sl.HS0_30 (F := F) c arg3 harg3 x2))⟩] := by
  unfold kernelRun0_A.sl.HS1_1 kernelRun0_A.sl.v212 kernelRun0_A.sl.v215 kernelRun0_A.sl.v218
  generalize kernelRun0_A.sl.HS0_30 (F := F) c arg3 harg3 x2 = L
  sl_unfold_words
  rfl

/-- What the first grid point writes. -/
theorem out_A (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0) (x0 x1 x2) :
    out0_A_3 (F := F) c i arg1 harg1 arg2 harg2 arg3 harg3 arg4 harg4 arg5 harg5 arg6 harg6 hc0 x0 x1 x2 =
      View.canon (pb_k0_t1 (F := F) Variants.none c none i arg1 harg1 arg2 harg2 arg3 harg3 arg4 harg4 arg5 harg5 arg6 harg6 (iota .tc S8x128 32 [1] iota_S8x128_d1_w32) k0_pay516 (harg1.unread x0) (harg2.unread x1)
        (arg6.view.writes (Elt F) arg6.view.junk [⟨Rect.unit (s := S256x1280) ![0, 0] ![256, 1280] inb_S256x1280_S256x1280_0_0, bytesOf arg2 (harg2.unread x1) arg5 (arg5.view.writes (Elt F) arg5.view.junk (kernelRun0_A.sl.HS0_30 (F := F) c arg3 harg3 x2))⟩]) k0_t1_loop.trips) := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  rw [HS1_A]
  rfl

/-- The parts the first grid point leaves for the later ones. -/
theorem sout_A (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0) (x0 x1 x2) :
    sout0_A_0 (F := F) c i arg1 harg1 arg2 harg2 arg3 harg3 arg4 harg4 arg5 harg5 arg6 harg6 hc0 x0 x1 x2 = View.canon (kernelRun0_A.sl.HS0_30 (F := F) c arg3 harg3 x2) := by
  unfold sout0_A_0
  rw [View.read_writes_junk_eq_canon]
  rfl

/-- A half of one column tile's even columns (`k0_pay3`) or odd columns (`k0_pay4`), rounded to a part. -/
def rnd (x : FVec F S256x128 .f32) : FVec F S256x128 .f32 := extf .f32 (truncf .bf16 x bitsLt_bf16_f32) bitsLt_bf16_f32

/-- What a part leaves of the table. -/
def rest (x : FVec F S256x128 .f32) : FVec F S256x128 .f32 := subf x (rnd x)

/-- A part as it is stored. -/
def part (x : FVec F S256x128 .f32) : FVec F S1x256x128 .bf16 :=
  shapeCast S1x256x128 (truncf .bf16 (rnd x) bitsLt_bf16_f32) shapeCasts_S256x128_S1x256x128

/-- The six stores of one column tile, last first. -/
abbrev sixPieces (x0 x1 : FVec F S256x128 .f32) (E0 E1 E2 O0 O1 O2 : Fin 3 → ℕ)
    (hE0 : ∀ a, E0 a + S1x256x128.size a ≤ S3x256x1280.size a) (hE1 : ∀ a, E1 a + S1x256x128.size a ≤ S3x256x1280.size a) (hE2 : ∀ a, E2 a + S1x256x128.size a ≤ S3x256x1280.size a)
    (hO0 : ∀ a, O0 a + S1x256x128.size a ≤ S3x256x1280.size a) (hO1 : ∀ a, O1 a + S1x256x128.size a ≤ S3x256x1280.size a) (hO2 : ∀ a, O2 a + S1x256x128.size a ≤ S3x256x1280.size a)
    (L : List (View.Piece (Elt F) S3x256x1280 .bf16)) : List (View.Piece (Elt F) S3x256x1280 .bf16) :=
  ⟨Rect.unit (s := S3x256x1280) O2 S1x256x128.size hO2, part (rest (rest (k0_pay4 x0 x1)))⟩ ::
  ⟨Rect.unit (s := S3x256x1280) O1 S1x256x128.size hO1, part (rest (k0_pay4 x0 x1))⟩ ::
  ⟨Rect.unit (s := S3x256x1280) O0 S1x256x128.size hO0, part (k0_pay4 x0 x1)⟩ ::
  ⟨Rect.unit (s := S3x256x1280) E2 S1x256x128.size hE2, part (rest (rest (k0_pay3 x0 x1)))⟩ ::
  ⟨Rect.unit (s := S3x256x1280) E1 S1x256x128.size hE1, part (rest (k0_pay3 x0 x1))⟩ ::
  ⟨Rect.unit (s := S3x256x1280) E0 S1x256x128.size hE0, part (k0_pay3 x0 x1)⟩ :: L

/-- A tile of 128 columns of the table. -/
def ldT (arg3 : Memref sig .tc .vmem S256x1280 .f32) (X3 : BufTy.Contents (Elt F) arg3.view.ty) (A : Fin 2 → ℕ)
    (h : ∀ a, A a + S256x128.size a ≤ S256x1280.size a) : FVec F S256x128 .f32 :=
  View.readAt (Elt F) arg3.view (Rect.unit (s := S256x1280) A S256x128.size h).toLoadRect X3

/-- The thirty stores of the parts. -/
theorem parts_eq (c : Dev nD) (arg3 : Memref sig .tc .vmem S256x1280 .f32) (harg3 : arg3.IsWhole) (x2) :
    kernelRun0_A.sl.HS0_30 (F := F) c arg3 harg3 x2 =
    (sixPieces (ldT arg3 (harg3.unread x2) ![0, 1024] inb_S256x1280_S256x128_0_1024) (ldT arg3 (harg3.unread x2) ![0, 1152] inb_S256x1280_S256x128_0_1152)
      ![0, 0, 512] ![1, 0, 512] ![2, 0, 512] ![0, 0, 1152] ![1, 0, 1152] ![2, 0, 1152]
      inb_S3x256x1280_S1x256x128_0_0_512 inb_S3x256x1280_S1x256x128_1_0_512 inb_S3x256x1280_S1x256x128_2_0_512 inb_S3x256x1280_S1x256x128_0_0_1152 inb_S3x256x1280_S1x256x128_1_0_1152 inb_S3x256x1280_S1x256x128_2_0_1152 <|
    sixPieces (ldT arg3 (harg3.unread x2) ![0, 768] inb_S256x1280_S256x128_0_768) (ldT arg3 (harg3.unread x2) ![0, 896] inb_S256x1280_S256x128_0_896)
      ![0, 0, 384] ![1, 0, 384] ![2, 0, 384] ![0, 0, 1024] ![1, 0, 1024] ![2, 0, 1024]
      inb_S3x256x1280_S1x256x128_0_0_384 inb_S3x256x1280_S1x256x128_1_0_384 inb_S3x256x1280_S1x256x128_2_0_384 inb_S3x256x1280_S1x256x128_0_0_1024 inb_S3x256x1280_S1x256x128_1_0_1024 inb_S3x256x1280_S1x256x128_2_0_1024 <|
    sixPieces (ldT arg3 (harg3.unread x2) ![0, 512] inb_S256x1280_S256x128_0_512) (ldT arg3 (harg3.unread x2) ![0, 640] inb_S256x1280_S256x128_0_640)
      ![0, 0, 256] ![1, 0, 256] ![2, 0, 256] ![0, 0, 896] ![1, 0, 896] ![2, 0, 896]
      inb_S3x256x1280_S1x256x128_0_0_256 inb_S3x256x1280_S1x256x128_1_0_256 inb_S3x256x1280_S1x256x128_2_0_256 inb_S3x256x1280_S1x256x128_0_0_896 inb_S3x256x1280_S1x256x128_1_0_896 inb_S3x256x1280_S1x256x128_2_0_896 <|
    sixPieces (ldT arg3 (harg3.unread x2) ![0, 256] inb_S256x1280_S256x128_0_256) (ldT arg3 (harg3.unread x2) ![0, 384] inb_S256x1280_S256x128_0_384)
      ![0, 0, 128] ![1, 0, 128] ![2, 0, 128] ![0, 0, 768] ![1, 0, 768] ![2, 0, 768]
      inb_S3x256x1280_S1x256x128_0_0_128 inb_S3x256x1280_S1x256x128_1_0_128 inb_S3x256x1280_S1x256x128_2_0_128 inb_S3x256x1280_S1x256x128_0_0_768 inb_S3x256x1280_S1x256x128_1_0_768 inb_S3x256x1280_S1x256x128_2_0_768 <|
    sixPieces (ldT arg3 (harg3.unread x2) ![0, 0] inb_S256x1280_S256x128_0_0) (ldT arg3 (harg3.unread x2) ![0, 128] inb_S256x1280_S256x128_0_128)
      ![0, 0, 0] ![1, 0, 0] ![2, 0, 0] ![0, 0, 640] ![1, 0, 640] ![2, 0, 640]
      inb_S3x256x1280_S1x256x128_0_0_0 inb_S3x256x1280_S1x256x128_1_0_0 inb_S3x256x1280_S1x256x128_2_0_0 inb_S3x256x1280_S1x256x128_0_0_640 inb_S3x256x1280_S1x256x128_1_0_640 inb_S3x256x1280_S1x256x128_2_0_640 []) := by
  sl_unfold_words
  rfl

end Cert.KernelIdeal.Val
-- ==== Proof.Arith.lean ====
module

public import Idealize.ShloMosaic.Lib.Pointwise
public import Idealize.ShloMosaic.Lib.IdealHost

@[expose] public section

set_option maxHeartbeats 1000000

noncomputable section

namespace Cert.Arith

open Idealize.ShloMosaic

/-- The four bits of a word from bit `s` on; read in two's complement they are a code. -/
def nib (w : BitVec 32) (s : ℕ) : BitVec 4 := w.extractLsb' s 4

/-- A nibble kept at its place by a mask. -/
theorem masked (x : BitVec 32) (t : ℕ) : x &&& (15#32 <<< t) = (nib x t).setWidth 32 <<< t := by
  unfold nib
  apply BitVec.eq_of_getLsbD_eq
  intro i hi
  have h15 : ∀ n, (15#32).getLsbD n = decide (n < 4) := by
    intro n
    by_cases h : n < 4
    · interval_cases n <;> rfl
    · by_cases h' : n < 32
      · interval_cases n <;> first | rfl | omega
      · simp [BitVec.getLsbD_of_ge _ _ (Nat.le_of_not_lt h'), h]
  simp only [BitVec.getLsbD_and, BitVec.getLsbD_shiftLeft, BitVec.getLsbD_setWidth, BitVec.getLsbD_extractLsb', h15]
  by_cases ht : i < t
  · simp [ht]
  · have e : t + (i - t) = i := by omega
    rw [e]
    by_cases h4 : i - t < 4 <;> simp [ht, h4, hi] <;> omega

/-- A nibble of a word brought down. -/
theorem nib_shift (x : BitVec 32) (s t : ℕ) : nib (x >>> s) t = nib x (t + s) := by
  unfold nib
  apply BitVec.eq_of_getLsbD_eq
  intro i hi
  simp [hi]; congr 1; omega

/-- A nibble of byte `j` of a word with every nibble's top bit turned over, still at its place in the word. -/
theorem low_word (w : BitVec 32) (j : Fin 4) :
    (w ^^^ 2290649224#32) &&& (15#32 <<< (8 * j.val)) = ((nib w (8 * j.val) ^^^ 8#4).setWidth 32) <<< (8 * j.val) := by
  have hc : nib 2290649224#32 (8 * j.val) = 8#4 := by revert j; decide
  rw [masked, ← hc]; unfold nib; rw [BitVec.extractLsb'_xor]

/-- … the high nibble of byte `j`, brought down by four bits. -/
theorem high_word (w : BitVec 32) (j : Fin 4) :
    ((w ^^^ 2290649224#32) >>> 4) &&& (15#32 <<< (8 * j.val)) = ((nib w (8 * j.val + 4) ^^^ 8#4).setWidth 32) <<< (8 * j.val) := by
  have hc : nib 2290649224#32 (8 * j.val + 4) = 8#4 := by revert j; decide
  rw [masked, nib_shift, ← hc]; unfold nib; rw [BitVec.extractLsb'_xor]

/-- The number such a word holds: the code plus eight, at the byte's weight. -/
theorem toInt_word (u : BitVec 4) (j : Fin 4) : (((u ^^^ 8#4).setWidth 32) <<< (8 * j.val)).toInt = (u.toInt + 8) * 2 ^ (8 * j.val) := by
  revert u j; decide

/-- The reference's low nibble of byte `j` of a word, made signed. -/
theorem ref_low (w : BitVec 32) (j : Fin 4) :
    ((w.sshiftRight (8 * j.val)) &&& 255#32) &&& 15#32 = (nib w (8 * j.val)).setWidth 32 := by
  unfold nib
  fin_cases j <;> (ext i hi; interval_cases i <;> simp [BitVec.getElem_sshiftRight])

/-- The reference's high nibble of byte `j` of a word. -/
theorem ref_high (w : BitVec 32) (j : Fin 4) :
    ((w.sshiftRight (8 * j.val)) &&& 255#32).sshiftRight 4 = (nib w (8 * j.val + 4)).setWidth 32 := by
  have h : ((w.sshiftRight (8 * j.val)) &&& 255#32).msb = false := by
    rw [BitVec.msb_and, show (255#32).msb = false from rfl, Bool.and_false]
  rw [BitVec.sshiftRight_eq_of_msb_false h]
  unfold nib
  fin_cases j <;> (ext i hi; interval_cases i <;> simp [BitVec.getElem_sshiftRight])

/-- Taking sixteen from the nibbles of eight and more reads them in two's complement. -/
theorem sgn_nib (u : BitVec 4) :
    (Scalar.select (IntOp.cmpi .sge (u.setWidth 32) 8#32) (IntOp.subi (u.setWidth 32) 16#32) (u.setWidth 32)).toInt = u.toInt := by
  revert u; decide

/-- The whole sum of one output element: six codes times their scales plus the byte row. -/
def total (b : EReal) (s0 s1 s2 s3 s4 s5 : EReal) (n0 n1 n2 n3 n4 n5 : ℤ) : EReal :=
  (((n0 : ℝ) : EReal) * s0 + ((n1 : ℝ) : EReal) * s1 + ((n2 : ℝ) : EReal) * s2 + ((n3 : ℝ) : EReal) * s3
    + ((n4 : ℝ) : EReal) * s4 + ((n5 : ℝ) : EReal) * s5) + b

/-- The kernel's accumulation — scales weighed down by `pw`, codes plus eight weighed up by its inverse, the eight taken
    off once through the bias — is the sum of the codes times the scales. -/
theorem total_eq (b : EReal) (s0 s1 s2 s3 s4 s5 pw c : ℝ) (m0 m1 m2 m3 m4 m5 n0 n1 n2 n3 n4 n5 : ℤ) (hc : pw * c = -8)
    (h0 : (m0 : ℝ) * pw = n0 + 8) (h1 : (m1 : ℝ) * pw = n1 + 8) (h2 : (m2 : ℝ) * pw = n2 + 8)
    (h3 : (m3 : ℝ) * pw = n3 + 8) (h4 : (m4 : ℝ) * pw = n4 + 8) (h5 : (m5 : ℝ) * pw = n5 + 8) :
    b + (((s0 : EReal) * pw + (s1 : EReal) * pw) + (s2 : EReal) * pw + (s3 : EReal) * pw + (s4 : EReal) * pw + (s5 : EReal) * pw) * (c : EReal)
      + ((m0 : ℝ) : EReal) * ((s0 : EReal) * pw) + ((m1 : ℝ) : EReal) * ((s1 : EReal) * pw)
      + ((m2 : ℝ) : EReal) * ((s2 : EReal) * pw) + ((m3 : ℝ) : EReal) * ((s3 : EReal) * pw)
      + ((m4 : ℝ) : EReal) * ((s4 : EReal) * pw) + ((m5 : ℝ) : EReal) * ((s5 : EReal) * pw)
      = total b s0 s1 s2 s3 s4 s5 n0 n1 n2 n3 n4 n5 := by
  unfold total
  simp only [← EReal.coe_mul, ← EReal.coe_add, add_assoc b]
  rw [add_comm b]
  congr 2
  linear_combination (s0 + s1 + s2 + s3 + s4 + s5) * hc + s0 * h0 + s1 * h1 + s2 * h2 + s3 * h3 + s4 * h4 + s5 * h5

/-- The weights of the four byte planes. -/
theorem plane (j : Fin 4) : Ideal.ofBits .f32 ((127#32 - 8#32 * BitVec.ofNat 32 j.val) <<< 23) = (((2 : ℝ) ^ (8 * j.val))⁻¹ : ℝ) := by
  fin_cases j <;> simp [Ideal.ofBits, Ideal.ieee, -EReal.coe_mul, -EReal.coe_neg] <;> norm_num

theorem bias0 : Ideal.ofBits .f32 0xC1000000#32 = ((-8 * 2 ^ (8 * 0) : ℝ) : EReal) := by
  simp [Ideal.ofBits, Ideal.ieee, -EReal.coe_mul, -EReal.coe_neg]; norm_num
theorem bias1 : Ideal.ofBits .f32 0xC5000000#32 = ((-8 * 2 ^ (8 * 1) : ℝ) : EReal) := by
  simp [Ideal.ofBits, Ideal.ieee, -EReal.coe_mul, -EReal.coe_neg]; norm_num
theorem bias2 : Ideal.ofBits .f32 0xC9000000#32 = ((-8 * 2 ^ (8 * 2) : ℝ) : EReal) := by
  simp [Ideal.ofBits, Ideal.ieee, -EReal.coe_mul, -EReal.coe_neg]; norm_num
theorem bias3 : Ideal.ofBits .f32 0xCD000000#32 = ((-8 * 2 ^ (8 * 3) : ℝ) : EReal) := by
  simp [Ideal.ofBits, Ideal.ieee, -EReal.coe_mul, -EReal.coe_neg]; norm_num

end Cert.Arith
-- ==== Proof.TileIdeal.lean ====
module

public import proofs.«01_k».proof.Proof.Tile
public import proofs.«01_k».proof.Proof.Arith

@[expose] public section

set_option maxRecDepth 16384

noncomputable section

namespace Cert.KernelIdeal.Val

open Cert.KernelIdeal Cert.KernelIdeal.Gen Cert.Arith Idealize.ShloMosaic Idealize.ShloMosaic.TcCoe Idealize.SL.Sem

/-- The biases of the four bytes. -/
def biasW : Fin 4 → BitVec 32 := ![0xC1000000#32, 0xC5000000#32, 0xC9000000#32, 0xCD000000#32]

/-- Each bias is minus eight at its byte's weight. -/
theorem biasW_val (j : Fin 4) : Ideal.ofBits .f32 (biasW j) = ((-8 * 2 ^ (8 * j.val) : ℝ) : EReal) := by
  fin_cases j
  exacts [bias0, bias1, bias2, bias3]

/-- What an accumulator holds at a lane, when its scales are finite and its words hold codes plus eight. -/
theorem accV_total (j : Fin 4) (b s0 s1 s2 s3 s4 s5 : FVec Ideal S8x128 .f32) (w0 w1 w2 w3 w4 w5 : IVec S8x128 32)
    (r : Fin 8) (l : Fin 128) (a0 a1 a2 a3 a4 a5 : ℝ) (n0 n1 n2 n3 n4 n5 : ℤ)
    (h0 : s0 (ix2 r l) = (a0 : EReal) * (((2 : ℝ) ^ (8 * j.val))⁻¹ : ℝ)) (h1 : s1 (ix2 r l) = (a1 : EReal) * (((2 : ℝ) ^ (8 * j.val))⁻¹ : ℝ))
    (h2 : s2 (ix2 r l) = (a2 : EReal) * (((2 : ℝ) ^ (8 * j.val))⁻¹ : ℝ)) (h3 : s3 (ix2 r l) = (a3 : EReal) * (((2 : ℝ) ^ (8 * j.val))⁻¹ : ℝ))
    (h4 : s4 (ix2 r l) = (a4 : EReal) * (((2 : ℝ) ^ (8 * j.val))⁻¹ : ℝ)) (h5 : s5 (ix2 r l) = (a5 : EReal) * (((2 : ℝ) ^ (8 * j.val))⁻¹ : ℝ))
    (g0 : (w0 (ix2 r l) &&& (15#32 <<< (8 * j.val))).toInt = (n0 + 8) * 2 ^ (8 * j.val))
    (g1 : (w1 (ix2 r l) &&& (15#32 <<< (8 * j.val))).toInt = (n1 + 8) * 2 ^ (8 * j.val))
    (g2 : (w2 (ix2 r l) &&& (15#32 <<< (8 * j.val))).toInt = (n2 + 8) * 2 ^ (8 * j.val))
    (g3 : (w3 (ix2 r l) &&& (15#32 <<< (8 * j.val))).toInt = (n3 + 8) * 2 ^ (8 * j.val))
    (g4 : (w4 (ix2 r l) &&& (15#32 <<< (8 * j.val))).toInt = (n4 + 8) * 2 ^ (8 * j.val))
    (g5 : (w5 (ix2 r l) &&& (15#32 <<< (8 * j.val))).toInt = (n5 + 8) * 2 ^ (8 * j.val)) :
    accV (F := Ideal) (15#32 <<< (8 * j.val)) (biasW j) b s0 s1 s2 s3 s4 s5 w0 w1 w2 w3 w4 w5 (ix2 r l)
      = total (b (ix2 r l)) a0 a1 a2 a3 a4 a5 n0 n1 n2 n3 n4 n5 := by
  have hp : ((2 : ℝ) ^ (8 * j.val)) ≠ 0 := by positivity
  have key (m n : ℤ) (h : m = (n + 8) * 2 ^ (8 * j.val)) : (m : ℝ) * ((2 : ℝ) ^ (8 * j.val))⁻¹ = n + 8 := by
    rw [h]; push_cast; field_simp
  rw [← total_eq (b (ix2 r l)) a0 a1 a2 a3 a4 a5 (((2 : ℝ) ^ (8 * j.val))⁻¹) (-8 * 2 ^ (8 * j.val)) _ _ _ _ _ _ n0 n1 n2 n3 n4 n5
    (by field_simp) (key _ _ g0) (key _ _ g1) (key _ _ g2) (key _ _ g3) (key _ _ g4) (key _ _ g5)]
  rw [← h0, ← h1, ← h2, ← h3, ← h4, ← h5, ← biasW_val]
  rfl

/-- The low nibbles' words of a tile. -/
theorem wX_word (p : Vec Ideal S1x1x1x8x128 .i32) (j : Fin 4) (r : Fin 8) (l : Fin 128) :
    (wX (F := Ideal) p (ix2 r l) &&& (15#32 <<< (8 * j.val))).toInt
      = ((nib (p (ix5 0 0 0 r l)) (8 * j.val + 4 * 0)).toInt + 8) * 2 ^ (8 * j.val) := by
  have e : wX (F := Ideal) p (ix2 r l) = p (ix5 0 0 0 r l) ^^^ 2290649224#32 := by
    pointwise [wX] <;> rfl
  rw [e, low_word, toInt_word, Nat.mul_zero, Nat.add_zero]

/-- The high nibbles' words of a tile. -/
theorem wY_word (p : Vec Ideal S1x1x1x8x128 .i32) (j : Fin 4) (r : Fin 8) (l : Fin 128) :
    (wY (F := Ideal) p (ix2 r l) &&& (15#32 <<< (8 * j.val))).toInt
      = ((nib (p (ix5 0 0 0 r l)) (8 * j.val + 4 * 1)).toInt + 8) * 2 ^ (8 * j.val) := by
  have e : wY (F := Ideal) p (ix2 r l) = (p (ix5 0 0 0 r l) ^^^ 2290649224#32) >>> 4 := by
    pointwise [wY, wX] <;> rfl
  rw [e, high_word, toInt_word, Nat.mul_one]

/-- The lane number's plane. -/
theorem lane_plane (l : Fin 128) : IntOp.andi (BitVec.ofNat 32 l.val) 3#32 = BitVec.ofNat 32 (l.val % 4) := by
  revert l; decide

/-- The scales of a trip at a lane: each weighed down by its byte's weight. -/
theorem pay75_at (x : FVec Ideal S8x128 .f32) (r : Fin 8) (l : Fin 128) :
    k0_pay75 (F := Ideal) (iota .tc S8x128 32 [1] iota_S8x128_d1_w32) x (ix2 r l) = x (ix2 r l) * ((((2 : ℝ) ^ (8 * (l.val % 4)))⁻¹ : ℝ) : EReal) := by
  rw [← plane ⟨l.val % 4, Nat.mod_lt _ (by norm_num)⟩]
  pointwise [k0_pay75]
  rw [lane_plane]
  rfl

/-- An element of a shape's axis from a number. -/
abbrev ofN (n : ℕ) [NeZero n] (x : ℕ) : Fin n := Fin.ofNat n x

variable (W : S6x8x5x8x128.Idx → BitVec 32) (S : S64x128.Idx → EReal) (B : S256x1280.Idx → EReal)

/-- One output element of a block from its words, scales and byte rows: byte plane `j`, sublane `r`, column tile `ct`,
    lane `L`, nibble `n`. -/
def gE (k j r ct L n : ℕ) : EReal :=
  total (B (ix2 (ofN 256 (32 * k + 8 * j + r)) (ofN 1280 (640 * n + 128 * ct + L))))
    (S (ix2 (ofN 64 (8 * k + r)) (ofN 128 (4 * 0 + j)))) (S (ix2 (ofN 64 (8 * k + r)) (ofN 128 (4 * 1 + j))))
    (S (ix2 (ofN 64 (8 * k + r)) (ofN 128 (4 * 2 + j)))) (S (ix2 (ofN 64 (8 * k + r)) (ofN 128 (4 * 3 + j))))
    (S (ix2 (ofN 64 (8 * k + r)) (ofN 128 (4 * 4 + j)))) (S (ix2 (ofN 64 (8 * k + r)) (ofN 128 (4 * 5 + j))))
    (nib (W (ix5 (ofN 6 0) (ofN 8 k) (ofN 5 ct) (ofN 8 r) (ofN 128 L))) (8 * j + 4 * n)).toInt
    (nib (W (ix5 (ofN 6 1) (ofN 8 k) (ofN 5 ct) (ofN 8 r) (ofN 128 L))) (8 * j + 4 * n)).toInt
    (nib (W (ix5 (ofN 6 2) (ofN 8 k) (ofN 5 ct) (ofN 8 r) (ofN 128 L))) (8 * j + 4 * n)).toInt
    (nib (W (ix5 (ofN 6 3) (ofN 8 k) (ofN 5 ct) (ofN 8 r) (ofN 128 L))) (8 * j + 4 * n)).toInt
    (nib (W (ix5 (ofN 6 4) (ofN 8 k) (ofN 5 ct) (ofN 8 r) (ofN 128 L))) (8 * j + 4 * n)).toInt
    (nib (W (ix5 (ofN 6 5) (ofN 8 k) (ofN 5 ct) (ofN 8 r) (ofN 128 L))) (8 * j + 4 * n)).toInt

/-- The element of a block's output at a row and a column. -/
def gAt (R C : ℕ) : EReal :=
  gE W S B (R / 32) (2 * (R % 32 / 16) + R % 2) (R % 16 / 2) (C / 256) (2 * (C % 128 / 2) + C % 256 / 128) (C % 2)

variable {W S B}

/-- The words a tile loads: sublanes of the table rows' words. -/
def IsW (W : S6x8x5x8x128.Idx → BitVec 32) (k ct q : ℕ) (p : Vec Ideal S1x1x1x8x128 .i32) : Prop :=
  ∀ (r : Fin 8) (l : Fin 128), p (ix5 0 0 0 r l) = W (ix5 (ofN 6 q) (ofN 8 k) (ofN 5 ct) (ofN 8 r) (ofN 128 l))

/-- The byte rows a tile loads. -/
def IsB (B : S256x1280.Idx → EReal) (R C : ℕ) (b : FVec Ideal S8x128 .f32) : Prop :=
  ∀ (r : Fin 8) (l : Fin 128), b (ix2 r l) = B (ix2 (ofN 256 (R + r)) (ofN 1280 (C + l)))

/-- The scales a trip works with. -/
def IsS (S : S64x128.Idx → EReal) (k : ℕ) (x : FVec Ideal S8x128 .f32) : Prop :=
  ∀ (r : Fin 8) (q : Fin 6) (j : Fin 4), x (ix2 r (ofN 128 (4 * q + j)))
    = S (ix2 (ofN 64 (8 * k + r)) (ofN 128 (4 * q + j))) * ((((2 : ℝ) ^ (8 * j.val))⁻¹ : ℝ) : EReal)

/-- The scales of a block are numbers. -/
def FinS (S : S64x128.Idx → EReal) : Prop :=
  ∀ (R : ℕ) (q : Fin 6) (j : Fin 4), ∃ a : ℝ, S (ix2 (ofN 64 R) (ofN 128 (4 * q + j))) = a

/-- A column spread over the lanes reads the column. -/
theorem colV_at (x : FVec Ideal S8x128 .f32) (c : ℕ) (hc : c < 128) (h : S8x128.Slices ![0, c] S8x1) (r : Fin 8) (l : Fin 128) :
    colV (F := Ideal) x c h (ix2 r l) = x (ix2 r ⟨c, hc⟩) := by
  pointwise [colV]

/-- One accumulator at a lane is the block's element, for words of either nibble. -/
theorem acc_gE (hS : FinS S) {k ct : ℕ} (j : Fin 4) (n : ℕ) {x b : FVec Ideal S8x128 .f32} {p0 p1 p2 p3 p4 p5 : Vec Ideal S1x1x1x8x128 .i32}
    (w : Vec Ideal S1x1x1x8x128 .i32 → IVec S8x128 32)
    (hw : ∀ (p : Vec Ideal S1x1x1x8x128 .i32) (r : Fin 8) (l : Fin 128), (w p (ix2 r l) &&& (15#32 <<< (8 * j.val))).toInt
      = ((nib (p (ix5 0 0 0 r l)) (8 * j.val + 4 * n)).toInt + 8) * 2 ^ (8 * j.val))
    (hx : IsS S k x) (hb : IsB B (32 * k + 8 * j) (640 * n + 128 * ct) b)
    (h0 : IsW W k ct 0 p0) (h1 : IsW W k ct 1 p1) (h2 : IsW W k ct 2 p2) (h3 : IsW W k ct 3 p3) (h4 : IsW W k ct 4 p4) (h5 : IsW W k ct 5 p5)
    (s0 s1 s2 s3 s4 s5)
    (r : Fin 8) (l : Fin 128) :
    accV (F := Ideal) (15#32 <<< (8 * j.val)) (biasW j) b (colV x (4 * 0 + j) s0) (colV x (4 * 1 + j) s1) (colV x (4 * 2 + j) s2)
      (colV x (4 * 3 + j) s3) (colV x (4 * 4 + j) s4) (colV x (4 * 5 + j) s5) (w p0) (w p1) (w p2) (w p3) (w p4) (w p5) (ix2 r l)
      = gE W S B k j r ct l n := by
  have hcol (q : Fin 6) (s) : ∃ a : ℝ, S (ix2 (ofN 64 (8 * k + r)) (ofN 128 (4 * q + j))) = a
      ∧ colV (F := Ideal) x (4 * q + j) s (ix2 r l) = (a : EReal) * ((((2 : ℝ) ^ (8 * j.val))⁻¹ : ℝ) : EReal) := by
    obtain ⟨a, ha⟩ := hS (8 * k + r) q j
    refine ⟨a, ha, ?_⟩
    have hc : 4 * q.val + j.val < 128 := by omega
    rw [colV_at x _ hc, ← ha, ← hx r q j]
    congr 2
    exact Fin.ext (Nat.mod_eq_of_lt hc).symm
  obtain ⟨a0, e0, f0⟩ := hcol 0 s0
  obtain ⟨a1, e1, f1⟩ := hcol 1 s1
  obtain ⟨a2, e2, f2⟩ := hcol 2 s2
  obtain ⟨a3, e3, f3⟩ := hcol 3 s3
  obtain ⟨a4, e4, f4⟩ := hcol 4 s4
  obtain ⟨a5, e5, f5⟩ := hcol 5 s5
  refine (accV_total j b _ _ _ _ _ _ _ _ _ _ _ _ r l a0 a1 a2 a3 a4 a5 _ _ _ _ _ _ f0 f1 f2 f3 f4 f5
    (hw p0 r l) (hw p1 r l) (hw p2 r l) (hw p3 r l) (hw p4 r l) (hw p5 r l)).trans ?_
  rw [hb, h0, h1, h2, h3, h4, h5, ← e0, ← e1, ← e2, ← e3, ← e4, ← e5]
  rfl

end Cert.KernelIdeal.Val
-- ==== Proof.Trip.lean ====
module

public import proofs.«01_k».proof.Proof.TileIdeal

@[expose] public section

set_option maxRecDepth 16384

noncomputable section

namespace Cert.KernelIdeal.Val

open Cert.KernelIdeal Cert.KernelIdeal.Gen Cert.Arith Idealize.ShloMosaic Idealize.ShloMosaic.TcCoe Idealize.SL.Sem

/-- Whether a lane is even, read off its lowest bit. -/
theorem lane_even (l : Fin 128) : IntOp.cmpi .eq (IntOp.andi (BitVec.ofNat 32 l.val) 1#32) 0#32 = if l.val % 2 = 0 then 1#1 else 0#1 := by
  revert l; decide

variable {W : S6x8x5x8x128.Idx → BitVec 32} {S : S64x128.Idx → EReal} {B : S256x1280.Idx → EReal}

/-- The first store of half a tile holds the block's elements of the first 128 columns. -/
theorem storeV0_gAt (k h ct : ℕ) (hh : h < 2) (elo ehi olo ohi : FVec Ideal S8x128 .f32)
    (he : ∀ (r : Fin 8) (l : Fin 128), elo (ix2 r l) = gE W S B k (2 * h + 0) r ct l 0)
    (he' : ∀ (r : Fin 8) (l : Fin 128), ehi (ix2 r l) = gE W S B k (2 * h + 1) r ct l 0)
    (ho : ∀ (r : Fin 8) (l : Fin 128), olo (ix2 r l) = gE W S B k (2 * h + 0) r ct l 1)
    (ho' : ∀ (r : Fin 8) (l : Fin 128), ohi (ix2 r l) = gE W S B k (2 * h + 1) r ct l 1) (r : Fin 16) (l : Fin 128) :
    storeV0 (F := Ideal) k0_pay516 elo ehi olo ohi (ix2 r l) = gAt W S B (32 * k + 16 * h + r) (256 * ct + 128 * 0 + l) := by
  rw [Nat.mul_zero, Nat.add_zero (256 * ct)]
  pointwise [storeV0, k0_pay516]
  rw [lane_even]
  simp only [he, he', ho, ho']
  unfold gAt
  have hr := r.isLt
  have hl := l.isLt
  rw [show (32 * k + 16 * h + r.val) / 32 = k by omega, show (32 * k + 16 * h + r.val) % 32 / 16 = h by omega,
    show (32 * k + 16 * h + r.val) % 2 = r.val % 2 by omega, show (32 * k + 16 * h + r.val) % 16 / 2 = r.val / 2 by omega,
    show (256 * ct + l.val) / 256 = ct by omega, show (256 * ct + l.val) % 2 = l.val % 2 by omega,
    show (256 * ct + l.val) % 256 / 128 = 0 by omega, show (256 * ct + l.val) % 128 / 2 = l.val / 2 by omega]
  rcases Nat.mod_two_eq_zero_or_one r.val with e | e <;> rcases Nat.mod_two_eq_zero_or_one l.val with f | f <;>
    simp only [e, f, if_true, if_false, one_ne_zero, Scalar.select]
  · exact congrArg (fun t => gE W S B k (2 * h + 0) (r.val / 2) ct t 0) (by omega)
  · exact congrArg (fun t => gE W S B k (2 * h + 0) (r.val / 2) ct t 1) (by omega)
  · exact congrArg (fun t => gE W S B k (2 * h + 1) (r.val / 2) ct t 0) (by omega)
  · exact congrArg (fun t => gE W S B k (2 * h + 1) (r.val / 2) ct t 1) (by omega)

/-- The second store of half a tile holds the block's elements of the last 128 columns. -/
theorem storeV1_gAt (k h ct : ℕ) (hh : h < 2) (elo ehi olo ohi : FVec Ideal S8x128 .f32)
    (he : ∀ (r : Fin 8) (l : Fin 128), elo (ix2 r l) = gE W S B k (2 * h + 0) r ct l 0)
    (he' : ∀ (r : Fin 8) (l : Fin 128), ehi (ix2 r l) = gE W S B k (2 * h + 1) r ct l 0)
    (ho : ∀ (r : Fin 8) (l : Fin 128), olo (ix2 r l) = gE W S B k (2 * h + 0) r ct l 1)
    (ho' : ∀ (r : Fin 8) (l : Fin 128), ohi (ix2 r l) = gE W S B k (2 * h + 1) r ct l 1) (r : Fin 16) (l : Fin 128) :
    storeV1 (F := Ideal) k0_pay516 elo ehi olo ohi (ix2 r l) = gAt W S B (32 * k + 16 * h + r) (256 * ct + 128 * 1 + l) := by
  pointwise [storeV1, k0_pay516]
  rw [lane_even]
  simp only [he, he', ho, ho']
  unfold gAt
  have hr := r.isLt
  have hl := l.isLt
  rw [show (32 * k + 16 * h + r.val) / 32 = k by omega, show (32 * k + 16 * h + r.val) % 32 / 16 = h by omega,
    show (32 * k + 16 * h + r.val) % 2 = r.val % 2 by omega, show (32 * k + 16 * h + r.val) % 16 / 2 = r.val / 2 by omega,
    show (256 * ct + 128 * 1 + l.val) / 256 = ct by omega, show (256 * ct + 128 * 1 + l.val) % 2 = l.val % 2 by omega,
    show (256 * ct + 128 * 1 + l.val) % 256 / 128 = 1 by omega, show (256 * ct + 128 * 1 + l.val) % 128 / 2 = l.val / 2 by omega]
  rcases Nat.mod_two_eq_zero_or_one r.val with e | e <;> rcases Nat.mod_two_eq_zero_or_one l.val with f | f <;>
    simp only [e, f, if_true, if_false, one_ne_zero, Scalar.select]
  · exact congrArg (fun t => gE W S B k (2 * h + 0) (r.val / 2) ct t 0) (by omega)
  · exact congrArg (fun t => gE W S B k (2 * h + 0) (r.val / 2) ct t 1) (by omega)
  · exact congrArg (fun t => gE W S B k (2 * h + 1) (r.val / 2) ct t 0) (by omega)
  · exact congrArg (fun t => gE W S B k (2 * h + 1) (r.val / 2) ct t 1) (by omega)

section tiles

variable (hS : FinS S) {k ct : ℕ} {x e0 e1 o0 o1 : FVec Ideal S8x128 .f32} {p0 p1 p2 p3 p4 p5 : Vec Ideal S1x1x1x8x128 .i32}
  (hx : IsS S k x) (h0 : IsW W k ct 0 p0) (h1 : IsW W k ct 1 p1) (h2 : IsW W k ct 2 p2) (h3 : IsW W k ct 3 p3) (h4 : IsW W k ct 4 p4) (h5 : IsW W k ct 5 p5)

include hS hx h0 h1 h2 h3 h4 h5

theorem tile00_gAt (he0 : IsB B (32 * k + 8 * 0) (640 * 0 + 128 * ct) e0) (he1 : IsB B (32 * k + 8 * 1) (640 * 0 + 128 * ct) e1)
    (ho0 : IsB B (32 * k + 8 * 0) (640 * 1 + 128 * ct) o0) (ho1 : IsB B (32 * k + 8 * 1) (640 * 1 + 128 * ct) o1) (r : Fin 16) (l : Fin 128) :
    tile00 (F := Ideal) k0_pay516 x e0 e1 o0 o1 p0 p1 p2 p3 p4 p5 (ix2 r l) = gAt W S B (32 * k + 16 * 0 + r) (256 * ct + 128 * 0 + l) :=
  storeV0_gAt k 0 ct (by norm_num) _ _ _ _
    (acc_gE hS 0 0 _ (fun p => wX_word p 0) hx he0 h0 h1 h2 h3 h4 h5 _ _ _ _ _ _)
    (acc_gE hS 1 0 _ (fun p => wX_word p 1) hx he1 h0 h1 h2 h3 h4 h5 _ _ _ _ _ _)
    (acc_gE hS 0 1 _ (fun p => wY_word p 0) hx ho0 h0 h1 h2 h3 h4 h5 _ _ _ _ _ _)
    (acc_gE hS 1 1 _ (fun p => wY_word p 1) hx ho1 h0 h1 h2 h3 h4 h5 _ _ _ _ _ _) r l

theorem tile01_gAt (he0 : IsB B (32 * k + 8 * 0) (640 * 0 + 128 * ct) e0) (he1 : IsB B (32 * k + 8 * 1) (640 * 0 + 128 * ct) e1)
    (ho0 : IsB B (32 * k + 8 * 0) (640 * 1 + 128 * ct) o0) (ho1 : IsB B (32 * k + 8 * 1) (640 * 1 + 128 * ct) o1) (r : Fin 16) (l : Fin 128) :
    tile01 (F := Ideal) k0_pay516 x e0 e1 o0 o1 p0 p1 p2 p3 p4 p5 (ix2 r l) = gAt W S B (32 * k + 16 * 0 + r) (256 * ct + 128 * 1 + l) :=
  storeV1_gAt k 0 ct (by norm_num) _ _ _ _
    (acc_gE hS 0 0 _ (fun p => wX_word p 0) hx he0 h0 h1 h2 h3 h4 h5 _ _ _ _ _ _)
    (acc_gE hS 1 0 _ (fun p => wX_word p 1) hx he1 h0 h1 h2 h3 h4 h5 _ _ _ _ _ _)
    (acc_gE hS 0 1 _ (fun p => wY_word p 0) hx ho0 h0 h1 h2 h3 h4 h5 _ _ _ _ _ _)
    (acc_gE hS 1 1 _ (fun p => wY_word p 1) hx ho1 h0 h1 h2 h3 h4 h5 _ _ _ _ _ _) r l

theorem tile10_gAt (he0 : IsB B (32 * k + 8 * 2) (640 * 0 + 128 * ct) e0) (he1 : IsB B (32 * k + 8 * 3) (640 * 0 + 128 * ct) e1)
    (ho0 : IsB B (32 * k + 8 * 2) (640 * 1 + 128 * ct) o0) (ho1 : IsB B (32 * k + 8 * 3) (640 * 1 + 128 * ct) o1) (r : Fin 16) (l : Fin 128) :
    tile10 (F := Ideal) k0_pay516 x e0 e1 o0 o1 p0 p1 p2 p3 p4 p5 (ix2 r l) = gAt W S B (32 * k + 16 * 1 + r) (256 * ct + 128 * 0 + l) :=
  storeV0_gAt k 1 ct (by norm_num) _ _ _ _
    (acc_gE hS 2 0 _ (fun p => wX_word p 2) hx he0 h0 h1 h2 h3 h4 h5 _ _ _ _ _ _)
    (acc_gE hS 3 0 _ (fun p => wX_word p 3) hx he1 h0 h1 h2 h3 h4 h5 _ _ _ _ _ _)
    (acc_gE hS 2 1 _ (fun p => wY_word p 2) hx ho0 h0 h1 h2 h3 h4 h5 _ _ _ _ _ _)
    (acc_gE hS 3 1 _ (fun p => wY_word p 3) hx ho1 h0 h1 h2 h3 h4 h5 _ _ _ _ _ _) r l

theorem tile11_gAt (he0 : IsB B (32 * k + 8 * 2) (640 * 0 + 128 * ct) e0) (he1 : IsB B (32 * k + 8 * 3) (640 * 0 + 128 * ct) e1)
    (ho0 : IsB B (32 * k + 8 * 2) (640 * 1 + 128 * ct) o0) (ho1 : IsB B (32 * k + 8 * 3) (640 * 1 + 128 * ct) o1) (r : Fin 16) (l : Fin 128) :
    tile11 (F := Ideal) k0_pay516 x e0 e1 o0 o1 p0 p1 p2 p3 p4 p5 (ix2 r l) = gAt W S B (32 * k + 16 * 1 + r) (256 * ct + 128 * 1 + l) :=
  storeV1_gAt k 1 ct (by norm_num) _ _ _ _
    (acc_gE hS 2 0 _ (fun p => wX_word p 2) hx he0 h0 h1 h2 h3 h4 h5 _ _ _ _ _ _)
    (acc_gE hS 3 0 _ (fun p => wX_word p 3) hx he1 h0 h1 h2 h3 h4 h5 _ _ _ _ _ _)
    (acc_gE hS 2 1 _ (fun p => wY_word p 2) hx ho0 h0 h1 h2 h3 h4 h5 _ _ _ _ _ _)
    (acc_gE hS 3 1 _ (fun p => wY_word p 3) hx ho1 h0 h1 h2 h3 h4 h5 _ _ _ _ _ _) r l

end tiles

end Cert.KernelIdeal.Val
-- ==== Proof.Pieces.lean ====
module

public import proofs.«01_k».proof.Proof.Trip
public import proofs.«01_k».proof.Proof.TripList

@[expose] public section

set_option maxRecDepth 16384

noncomputable section

namespace Cert.KernelIdeal.Val

open Cert.KernelIdeal Cert.KernelIdeal.Gen Cert.Arith Idealize.ShloMosaic Idealize.ShloMosaic.TcCoe Idealize.SL.Sem

/-- A number in range, as an element of its axis. -/
theorem ofN_of_lt (n : ℕ) [NeZero n] {x : ℕ} (h : x < n) (y : Fin n) (e : y.val = x) : y = ofN n x :=
  Fin.ext (e.trans (Nat.mod_eq_of_lt h).symm)

/-- What a block's output holds, from the words, scales and byte rows read by the loop. -/
def gG (W : S6x8x5x8x128.Idx → BitVec 32) (S : S64x128.Idx → EReal) (B : S256x1280.Idx → EReal) : S256x1280.Idx → Elt Ideal .bf16 :=
  fun y => gAt W S B (y (0 : Fin 2)).val (y (1 : Fin 2)).val

/-- A store of 16 rows and 128 columns that holds the block's elements at its place. -/
theorem piece_of {W : S6x8x5x8x128.Idx → BitVec 32} {S : S64x128.Idx → EReal} {B : S256x1280.Idx → EReal} {off : Fin 2 → ℕ}
    (hin : ∀ a, off a + S16x128.size a ≤ S256x1280.size a) {R C : ℕ} (ho : off = ![R, C]) {pay : FVec Ideal S16x128 .bf16}
    (h : ∀ (r : Fin 16) (l : Fin 128), pay (ix2 r l) = gAt W S B (R + r) (C + l)) (x : S16x128.Idx) :
    pay x = gG W S B ((Rect.unit (s := S256x1280) off S16x128.size hin).emb x) := by
  subst ho
  refine (congrArg pay (eq_ix2 x)).trans ((h (x 0) (x 1)).trans ?_)
  show _ = gAt W S B (R + 1 * (x 0).val) (C + 1 * (x 1).val)
  rw [one_mul, one_mul]

/-- The words of a tile, read. -/
theorem ldW_isW (arg1 : Memref sig .tc .vmem S6x8x5x8x128 .i32) (X : BufTy.Contents (Elt Ideal) arg1.view.ty) {off : Fin 5 → ℕ}
    (h : ∀ a, off a + S1x1x1x8x128.size a ≤ S6x8x5x8x128.size a) {q k ct : ℕ} (ho : off = ![q, k, ct, 0, 0])  :
    IsW (arg1.view.read (Elt Ideal) X) k ct q (ldW arg1 X off h) := by
  subst ho
  intro r l
  have h0 := h 0
  have h1 := h 1
  have h2 := h 2
  refine congrArg (arg1.view.read (Elt Ideal) X) (funext fun a => ?_)
  fin_cases a
  · exact ofN_of_lt 6 (by simpa using h0) _ (by rfl)
  · exact ofN_of_lt 8 (by simpa using h1) _ (by rfl)
  · exact ofN_of_lt 5 (by simpa using h2) _ (by rfl)
  · exact ofN_of_lt 8 r.isLt _ (by show 0 + 1 * _ = _; rw [one_mul, Nat.zero_add]; rfl)
  · exact ofN_of_lt 128 l.isLt _ (by show 0 + 1 * _ = _; rw [one_mul, Nat.zero_add]; rfl)

/-- The byte rows of a tile, read. -/
theorem ldB_isB (arg6 : Memref sig .tc .vmem S256x1280 .f32) (X : BufTy.Contents (Elt Ideal) arg6.view.ty) {off : Fin 2 → ℕ}
    (h : ∀ a, off a + S8x128.size a ≤ S256x1280.size a) {R C : ℕ} (ho : off = ![R, C]) :
    IsB (arg6.view.read (Elt Ideal) X) R C (ldB arg6 X off h) := by
  subst ho
  intro r l
  have h0 : R + 8 ≤ 256 := h 0
  have h1 : C + 128 ≤ 1280 := h 1
  refine congrArg (arg6.view.read (Elt Ideal) X) (funext fun a => ?_)
  fin_cases a
  · exact ofN_of_lt 256 (by omega) _ (by show _ + 1 * _ = _; rw [one_mul]; rfl)
  · exact ofN_of_lt 1280 (by omega) _ (by show _ + 1 * _ = _; rw [one_mul]; rfl)

/-- The scales of a trip, read and weighed. -/
theorem ldS_isS (arg2 : Memref sig .tc .vmem S64x128 .f32) (X : BufTy.Contents (Elt Ideal) arg2.view.ty) (k : Fin k0_t1_loop.trips) :
    IsS (arg2.view.read (Elt Ideal) X) k.val (k0_pay75 (F := Ideal) (iota .tc S8x128 32 [1] iota_S8x128_d1_w32) (ldS arg2 X k)) := by
  intro r q j
  have hk : k.val < 8 := lt_of_lt_of_le k.isLt k0_t1_abs.2.1
  have hm : (4 * q.val + j.val) % 128 = 4 * q.val + j.val := Nat.mod_eq_of_lt (by omega)
  rw [pay75_at]
  have e : (ofN 128 (4 * q + j)).val % 4 = j.val := by
    show (4 * q.val + j.val) % 128 % 4 = j.val
    rw [hm]; omega
  rw [e]
  congr 1
  have hoff := k0_off1_eq k
  refine congrArg (arg2.view.read (Elt Ideal) X) (funext fun a => ?_)
  fin_cases a
  · refine ofN_of_lt 64 (by omega) _ ?_
    show k0_off1 k 0 + 1 * r.val = _
    rw [hoff, one_mul]; rfl
  · refine ofN_of_lt 128 (by omega) _ ?_
    show k0_off1 k 1 + 1 * ((4 * q.val + j.val) % 128) = _
    rw [hoff, one_mul, hm]; exact Nat.zero_add _

/-- The four stores of a column tile hold the block's elements at their places. -/
theorem four_pieces {W : S6x8x5x8x128.Idx → BitVec 32} {S : S64x128.Idx → EReal} {B : S256x1280.Idx → EReal} (hS : FinS S) {k ct : ℕ}
    {x e0 e1 e2 e3 o0 o1 o2 o3 : FVec Ideal S8x128 .f32} {p0 p1 p2 p3 p4 p5 : Vec Ideal S1x1x1x8x128 .i32} {A0 A1 B0 B1 : Fin 2 → ℕ}
    {hA0 : ∀ a, A0 a + S16x128.size a ≤ S256x1280.size a} {hA1 : ∀ a, A1 a + S16x128.size a ≤ S256x1280.size a}
    {hB0 : ∀ a, B0 a + S16x128.size a ≤ S256x1280.size a} {hB1 : ∀ a, B1 a + S16x128.size a ≤ S256x1280.size a}
    {L : List (View.Piece (Elt Ideal) S256x1280 .bf16)} (hL : View.PiecesOf (gG W S B) L) (hx : IsS S k x)
    (h0 : IsW W k ct 0 p0) (h1 : IsW W k ct 1 p1) (h2 : IsW W k ct 2 p2) (h3 : IsW W k ct 3 p3) (h4 : IsW W k ct 4 p4) (h5 : IsW W k ct 5 p5)
    (he0 : IsB B (32 * k + 8 * 0) (640 * 0 + 128 * ct) e0) (he1 : IsB B (32 * k + 8 * 1) (640 * 0 + 128 * ct) e1)
    (he2 : IsB B (32 * k + 8 * 2) (640 * 0 + 128 * ct) e2) (he3 : IsB B (32 * k + 8 * 3) (640 * 0 + 128 * ct) e3)
    (ho0 : IsB B (32 * k + 8 * 0) (640 * 1 + 128 * ct) o0) (ho1 : IsB B (32 * k + 8 * 1) (640 * 1 + 128 * ct) o1)
    (ho2 : IsB B (32 * k + 8 * 2) (640 * 1 + 128 * ct) o2) (ho3 : IsB B (32 * k + 8 * 3) (640 * 1 + 128 * ct) o3)
    (q0 : A0 = ![32 * k + 16 * 0, 256 * ct + 128 * 0]) (q1 : A1 = ![32 * k + 16 * 1, 256 * ct + 128 * 0])
    (q2 : B0 = ![32 * k + 16 * 0, 256 * ct + 128 * 1]) (q3 : B1 = ![32 * k + 16 * 1, 256 * ct + 128 * 1]) :
    View.PiecesOf (gG W S B) (fourPieces k0_pay516 x e0 e1 e2 e3 o0 o1 o2 o3 p0 p1 p2 p3 p4 p5 A0 A1 B0 B1 hA0 hA1 hB0 hB1 L) :=
  ⟨piece_of hB1 q3 (tile11_gAt hS hx h0 h1 h2 h3 h4 h5 he2 he3 ho2 ho3), piece_of hA1 q1 (tile10_gAt hS hx h0 h1 h2 h3 h4 h5 he2 he3 ho2 ho3),
    piece_of hB0 q2 (tile01_gAt hS hx h0 h1 h2 h3 h4 h5 he0 he1 ho0 ho1), piece_of hA0 q0 (tile00_gAt hS hx h0 h1 h2 h3 h4 h5 he0 he1 ho0 ho1), hL⟩

/-- Every store of a trip holds the block's elements at its place. -/
theorem trip_pieces (𝒱 : Variants) (c : Dev nD) (bd : Option 𝒱.V) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole)
    (X_arg1 : BufTy.Contents (Elt Ideal) arg1.view.ty) (X_arg2 : BufTy.Contents (Elt Ideal) arg2.view.ty) (X_arg6 : BufTy.Contents (Elt Ideal) arg6.view.ty) (k : Fin k0_t1_loop.trips)
    (hS : FinS (arg2.view.read (Elt Ideal) X_arg2)) :
    View.PiecesOf (gG (arg1.view.read (Elt Ideal) X_arg1) (arg2.view.read (Elt Ideal) X_arg2) (arg6.view.read (Elt Ideal) X_arg6))
      (tripL_k0_t1 (F := Ideal) 𝒱 c bd i arg1 harg1 arg2 harg2 arg3 harg3 arg4 harg4 arg5 harg5 arg6 harg6 (iota .tc S8x128 32 [1] iota_S8x128_d1_w32) k0_pay516 X_arg1 X_arg2 X_arg6 k) := by
  rw [trip_eq]
  have hx := ldS_isS arg2 X_arg2 k
  exact four_pieces hS (ct := 4) (four_pieces hS (ct := 3) (four_pieces hS (ct := 2) (four_pieces hS (ct := 1) (four_pieces hS (ct := 0) trivial hx
    (ldW_isW arg1 X_arg1 _ (k0_off4_eq k)) (ldW_isW arg1 X_arg1 _ (k0_off5_eq k)) (ldW_isW arg1 X_arg1 _ (k0_off6_eq k)) (ldW_isW arg1 X_arg1 _ (k0_off7_eq k)) (ldW_isW arg1 X_arg1 _ (k0_off8_eq k)) (ldW_isW arg1 X_arg1 _ (k0_off9_eq k))
    (ldB_isB arg6 X_arg6 _ (k0_off2_eq k 0)) (ldB_isB arg6 X_arg6 _ (k0_off2_eq k 1)) (ldB_isB arg6 X_arg6 _ (k0_off2_eq k 2)) (ldB_isB arg6 X_arg6 _ (k0_off2_eq k 3))
    (ldB_isB arg6 X_arg6 _ (k0_off3_eq k 0)) (ldB_isB arg6 X_arg6 _ (k0_off3_eq k 1)) (ldB_isB arg6 X_arg6 _ (k0_off3_eq k 2)) (ldB_isB arg6 X_arg6 _ (k0_off3_eq k 3))
    (k0_off10_eq k 0) (k0_off10_eq k 1) (k0_off11_eq k 0) (k0_off11_eq k 1)) hx
    (ldW_isW arg1 X_arg1 _ (k0_off14_eq k)) (ldW_isW arg1 X_arg1 _ (k0_off15_eq k)) (ldW_isW arg1 X_arg1 _ (k0_off16_eq k)) (ldW_isW arg1 X_arg1 _ (k0_off17_eq k)) (ldW_isW arg1 X_arg1 _ (k0_off18_eq k)) (ldW_isW arg1 X_arg1 _ (k0_off19_eq k))
    (ldB_isB arg6 X_arg6 _ (k0_off12_eq k 0)) (ldB_isB arg6 X_arg6 _ (k0_off12_eq k 1)) (ldB_isB arg6 X_arg6 _ (k0_off12_eq k 2)) (ldB_isB arg6 X_arg6 _ (k0_off12_eq k 3))
    (ldB_isB arg6 X_arg6 _ (k0_off13_eq k 0)) (ldB_isB arg6 X_arg6 _ (k0_off13_eq k 1)) (ldB_isB arg6 X_arg6 _ (k0_off13_eq k 2)) (ldB_isB arg6 X_arg6 _ (k0_off13_eq k 3))
    (k0_off20_eq k 0) (k0_off20_eq k 1) (k0_off21_eq k 0) (k0_off21_eq k 1)) hx
    (ldW_isW arg1 X_arg1 _ (k0_off24_eq k)) (ldW_isW arg1 X_arg1 _ (k0_off25_eq k)) (ldW_isW arg1 X_arg1 _ (k0_off26_eq k)) (ldW_isW arg1 X_arg1 _ (k0_off27_eq k)) (ldW_isW arg1 X_arg1 _ (k0_off28_eq k)) (ldW_isW arg1 X_arg1 _ (k0_off29_eq k))
    (ldB_isB arg6 X_arg6 _ (k0_off22_eq k 0)) (ldB_isB arg6 X_arg6 _ (k0_off22_eq k 1)) (ldB_isB arg6 X_arg6 _ (k0_off22_eq k 2)) (ldB_isB arg6 X_arg6 _ (k0_off22_eq k 3))
    (ldB_isB arg6 X_arg6 _ (k0_off23_eq k 0)) (ldB_isB arg6 X_arg6 _ (k0_off23_eq k 1)) (ldB_isB arg6 X_arg6 _ (k0_off23_eq k 2)) (ldB_isB arg6 X_arg6 _ (k0_off23_eq k 3))
    (k0_off30_eq k 0) (k0_off30_eq k 1) (k0_off31_eq k 0) (k0_off31_eq k 1)) hx
    (ldW_isW arg1 X_arg1 _ (k0_off34_eq k)) (ldW_isW arg1 X_arg1 _ (k0_off35_eq k)) (ldW_isW arg1 X_arg1 _ (k0_off36_eq k)) (ldW_isW arg1 X_arg1 _ (k0_off37_eq k)) (ldW_isW arg1 X_arg1 _ (k0_off38_eq k)) (ldW_isW arg1 X_arg1 _ (k0_off39_eq k))
    (ldB_isB arg6 X_arg6 _ (k0_off32_eq k 0)) (ldB_isB arg6 X_arg6 _ (k0_off32_eq k 1)) (ldB_isB arg6 X_arg6 _ (k0_off32_eq k 2)) (ldB_isB arg6 X_arg6 _ (k0_off32_eq k 3))
    (ldB_isB arg6 X_arg6 _ (k0_off33_eq k 0)) (ldB_isB arg6 X_arg6 _ (k0_off33_eq k 1)) (ldB_isB arg6 X_arg6 _ (k0_off33_eq k 2)) (ldB_isB arg6 X_arg6 _ (k0_off33_eq k 3))
    (k0_off40_eq k 0) (k0_off40_eq k 1) (k0_off41_eq k 0) (k0_off41_eq k 1)) hx
    (ldW_isW arg1 X_arg1 _ (k0_off44_eq k)) (ldW_isW arg1 X_arg1 _ (k0_off45_eq k)) (ldW_isW arg1 X_arg1 _ (k0_off46_eq k)) (ldW_isW arg1 X_arg1 _ (k0_off47_eq k)) (ldW_isW arg1 X_arg1 _ (k0_off48_eq k)) (ldW_isW arg1 X_arg1 _ (k0_off49_eq k))
    (ldB_isB arg6 X_arg6 _ (k0_off42_eq k 0)) (ldB_isB arg6 X_arg6 _ (k0_off42_eq k 1)) (ldB_isB arg6 X_arg6 _ (k0_off42_eq k 2)) (ldB_isB arg6 X_arg6 _ (k0_off42_eq k 3))
    (ldB_isB arg6 X_arg6 _ (k0_off43_eq k 0)) (ldB_isB arg6 X_arg6 _ (k0_off43_eq k 1)) (ldB_isB arg6 X_arg6 _ (k0_off43_eq k 2)) (ldB_isB arg6 X_arg6 _ (k0_off43_eq k 3))
    (k0_off50_eq k 0) (k0_off50_eq k 1) (k0_off51_eq k 0) (k0_off51_eq k 1)

end Cert.KernelIdeal.Val
-- ==== Proof.ByteRows.lean ====
module

public import proofs.«01_k».proof.Proof.Bytes
public import proofs.«01_k».proof.Proof.Pieces

@[expose] public section

set_option maxRecDepth 16384

noncomputable section

namespace Cert.KernelIdeal.Val

open Cert.KernelIdeal Cert.KernelIdeal.Gen Idealize.ShloMosaic Idealize.ShloMosaic.TcCoe Idealize.SL.Sem

/-- A one-hot row at a table row. -/
theorem ohV_at (x : FVec Ideal S8x128 .f32) (c : ℕ) (hc : c < 128) (h : S8x128.Slices ![0, c] S8x1) (r : Fin 8) (t : Fin 256) :
    ohV (F := Ideal) x c h (ix2 r t) = if (((t.val : ℝ)) : EReal) = x (ix2 r ⟨c, hc⟩) then 1 else 0 := by
  pointwise [ohV, k0_pay518]
  have e : (FloatOps.sitofp (F := Ideal) FTy.f32 (BitVec.ofNat 32 t.val) : EReal) = ((t.val : ℝ) : EReal) := by
    show (((BitVec.ofNat 32 t.val).toInt : ℝ) : EReal) = _
    have ht : (BitVec.ofNat 32 t.val).toInt = (t.val : ℤ) := by
      rw [BitVec.toInt_eq_toNat_of_lt (by simp; omega), BitVec.toNat_ofNat, Nat.mod_eq_of_lt (by omega)]
    rw [ht, Int.cast_natCast]
  exact if_congr (by rw [← e]) rfl rfl

/-- The three products at a row and a column. -/
theorem pay1_at (o : FVec Ideal S256x256 .bf16) (q0 q1 q2 : Vec Ideal S1x256x1280 .bf16) (r : Fin 256) (d : Fin 1280) :
    k0_pay1 (F := Ideal) o q0 q1 q2 (ix2 r d) = (∑ t : Fin 256, o (ix2 r t) * q0 (ix3 0 t d)) + ((∑ t : Fin 256, o (ix2 r t) * q1 (ix3 0 t d)) + ∑ t : Fin 256, o (ix2 r t) * q2 (ix3 0 t d)) := by
  pointwise [k0_pay1]

/-- The test for an even lane. -/
theorem even_lane (l : Fin 128) {α : Type} (a b : α) :
    Scalar.select (IntOp.cmpi CmpIPredicate.eq (IntOp.andi (BitVec.ofNat 32 l.val) 1#32) 0#32) a b = if l.val % 2 = 0 then a else b := by
  have e : IntOp.cmpi CmpIPredicate.eq (IntOp.andi (BitVec.ofNat 32 l.val) 1#32) 0#32 = if l.val % 2 = 0 then 1#1 else 0#1 := by
    revert l; decide
  rw [e]
  split <;> rfl

/-- Even columns of the table, an even lane from the first half of the tile and an odd one from the second. -/
theorem pay3_at (x0 x1 : FVec Ideal S256x128 .f32) (r : Fin 256) (l : Fin 128) :
    k0_pay3 (F := Ideal) x0 x1 (ix2 r l) = if l.val % 2 = 0 then x0 (ix2 r l) else x1 (ix2 r (ofN 128 (l.val - 1))) := by
  pointwise [k0_pay3, k0_pay2]
  rw [even_lane]
  split
  · rfl
  · refine congrArg x1 (congrArg (ix2 r) (Fin.ext ?_))
    show (l.val + 128 - 1) % 128 = (l.val - 1) % 128
    omega

/-- Odd columns of the table likewise. -/
theorem pay4_at (x0 x1 : FVec Ideal S256x128 .f32) (r : Fin 256) (l : Fin 128) :
    k0_pay4 (F := Ideal) x0 x1 (ix2 r l) = if l.val % 2 = 0 then x0 (ix2 r (ofN 128 (l.val + 1))) else x1 (ix2 r l) := by
  pointwise [k0_pay4, k0_pay2]
  rw [even_lane]
  split
  · refine congrArg x0 (congrArg (ix2 r) (Fin.ext ?_))
    show (l.val + 128 - 127) % 128 = (l.val + 1) % 128
    omega
  · rfl

/-- Rounding to a part loses nothing at the reals. -/
theorem part_at (x0 : FVec Ideal S256x128 .f32) (r : Fin 256) (l : Fin 128) :
    part (F := Ideal) x0 (ix3 0 r l) = x0 (ix2 r l) := by
  pointwise [part, rnd]

/-- … so of a finite table nothing is left for the next part. -/
theorem rest_at (x : FVec Ideal S256x128 .f32) (r : Fin 256) (l : Fin 128) (h : ∃ a : ℝ, x (ix2 r l) = a) :
    rest (F := Ideal) x (ix2 r l) = 0 := by
  obtain ⟨a, h⟩ := h
  pointwise [rest, rnd]
  rw [h, ← EReal.coe_sub, sub_self]; rfl

/-- The table column that column `D` of a part holds. -/
def colOf (D : ℕ) : ℕ := 256 * (D % 640 / 128) + 128 * (D % 128 % 2) + 2 * (D % 128 / 2) + D / 640

/-- The parts of the table: the first is the table with its columns in the order of the code words, the others are zero. -/
def partsG (T : S256x1280.Idx → EReal) : S3x256x1280.Idx → Elt Ideal .bf16 :=
  fun y => if (y (0 : Fin 3)).val = 0 then T (ix2 (ofN 256 (y (1 : Fin 3)).val) (ofN 1280 (colOf (y (2 : Fin 3)).val))) else (0 : EReal)

/-- A store of 128 columns of a part, that holds the part's elements at its place. -/
theorem spiece_of {T : S256x1280.Idx → EReal} {A : Fin 3 → ℕ} (hA : ∀ a, A a + S1x256x128.size a ≤ S3x256x1280.size a) {p n ct : ℕ} (hct : ct < 5)
    (hn : n < 2) (ho : A = ![p, 0, 640 * n + 128 * ct]) {pay : FVec Ideal S1x256x128 .bf16}
    (h : ∀ (r : Fin 256) (l : Fin 128), pay (ix3 0 r l) = if p = 0 then T (ix2 r (ofN 1280 (256 * ct + 128 * (l.val % 2) + 2 * (l.val / 2) + n))) else (0 : EReal))
    (x : S1x256x128.Idx) :
    pay x = partsG T ((Rect.unit (s := S3x256x1280) A S1x256x128.size hA).emb x) := by
  subst ho
  have hx0 : x (0 : Fin 3) = (0 : Fin 1) := Subsingleton.elim (α := Fin 1) _ _
  have ex : x = ix3 (0 : Fin 1) (x (1 : Fin 3)) (x (2 : Fin 3)) := (eq_ix3 x).trans (by rw [hx0]; rfl)
  refine (congrArg pay ex).trans ((h (x (1 : Fin 3)) (x (2 : Fin 3))).trans ?_)
  show _ = if p + 1 * (x (0 : Fin 3)).val = 0 then T (ix2 (ofN 256 (0 + 1 * (x (1 : Fin 3)).val)) (ofN 1280 (colOf (640 * n + 128 * ct + 1 * (x (2 : Fin 3)).val)))) else (0 : EReal)
  have h0 : (x (0 : Fin 3)).val = 0 := by rw [hx0]; rfl
  have h2 : (x (2 : Fin 3)).val < 128 := (x (2 : Fin 3)).isLt
  have h1 : x (1 : Fin 3) = ofN 256 (0 + 1 * (x (1 : Fin 3)).val) := ofN_of_lt 256 (by have : (x (1 : Fin 3)).val < 256 := (x (1 : Fin 3)).isLt; omega) _ (by omega)
  have e : colOf (640 * n + 128 * ct + 1 * (x (2 : Fin 3)).val) = 256 * ct + 128 * ((x (2 : Fin 3)).val % 2) + 2 * ((x (2 : Fin 3)).val / 2) + n := by
    unfold colOf; omega
  rw [h0, e, ← h1]; rfl

/-- Every element of the table is a real. -/
def FinT (T : S256x1280.Idx → EReal) : Prop := ∀ y, ∃ a : ℝ, T y = a

/-- The table's tile `ct`, `i`-th half. -/
def IsT (T : S256x1280.Idx → EReal) (C : ℕ) (x : FVec Ideal S256x128 .f32) : Prop := ∀ (r : Fin 256) (l : Fin 128), x (ix2 r l) = T (ix2 r (ofN 1280 (C + l.val)))

theorem pay3_T {T : S256x1280.Idx → EReal} {ct : ℕ} {x0 x1 : FVec Ideal S256x128 .f32} (h0 : IsT T (256 * ct) x0) (h1 : IsT T (256 * ct + 128) x1) (r : Fin 256) (l : Fin 128) :
    k0_pay3 (F := Ideal) x0 x1 (ix2 r l) = T (ix2 r (ofN 1280 (256 * ct + 128 * (l.val % 2) + 2 * (l.val / 2) + 0))) := by
  rw [pay3_at]
  split
  · rw [h0]; congr 3; omega
  · rw [h1]; congr 3; show _ + (l.val - 1) % 128 = _; omega

theorem pay4_T {T : S256x1280.Idx → EReal} {ct : ℕ} {x0 x1 : FVec Ideal S256x128 .f32} (h0 : IsT T (256 * ct) x0) (h1 : IsT T (256 * ct + 128) x1) (r : Fin 256) (l : Fin 128) :
    k0_pay4 (F := Ideal) x0 x1 (ix2 r l) = T (ix2 r (ofN 1280 (256 * ct + 128 * (l.val % 2) + 2 * (l.val / 2) + 1))) := by
  rw [pay4_at]
  split
  · rw [h0]; congr 3; show _ + (l.val + 1) % 128 = _; omega
  · rw [h1]; congr 3; omega

/-- The six stores of a column tile hold the parts at their places. -/
theorem six_pieces {T : S256x1280.Idx → EReal} (hT : FinT T) {ct : ℕ} (hct : ct < 5) {x0 x1 : FVec Ideal S256x128 .f32} (h0 : IsT T (256 * ct) x0) (h1 : IsT T (256 * ct + 128) x1)
    {E0 E1 E2 O0 O1 O2 : Fin 3 → ℕ}
    {hE0 : ∀ a, E0 a + S1x256x128.size a ≤ S3x256x1280.size a} {hE1 : ∀ a, E1 a + S1x256x128.size a ≤ S3x256x1280.size a} {hE2 : ∀ a, E2 a + S1x256x128.size a ≤ S3x256x1280.size a}
    {hO0 : ∀ a, O0 a + S1x256x128.size a ≤ S3x256x1280.size a} {hO1 : ∀ a, O1 a + S1x256x128.size a ≤ S3x256x1280.size a} {hO2 : ∀ a, O2 a + S1x256x128.size a ≤ S3x256x1280.size a}
    (e0 : E0 = ![0, 0, 640 * 0 + 128 * ct]) (e1 : E1 = ![1, 0, 640 * 0 + 128 * ct]) (e2 : E2 = ![2, 0, 640 * 0 + 128 * ct])
    (o0 : O0 = ![0, 0, 640 * 1 + 128 * ct]) (o1 : O1 = ![1, 0, 640 * 1 + 128 * ct]) (o2 : O2 = ![2, 0, 640 * 1 + 128 * ct])
    {L : List (View.Piece (Elt Ideal) S3x256x1280 .bf16)} (hL : View.PiecesOf (partsG T) L) :
    View.PiecesOf (partsG T) (sixPieces (F := Ideal) x0 x1 E0 E1 E2 O0 O1 O2 hE0 hE1 hE2 hO0 hO1 hO2 L) := by
  have f3 : ∀ r l, ∃ a : ℝ, k0_pay3 (F := Ideal) x0 x1 (ix2 r l) = a := fun r l => by rw [pay3_T h0 h1]; exact hT _
  have f4 : ∀ r l, ∃ a : ℝ, k0_pay4 (F := Ideal) x0 x1 (ix2 r l) = a := fun r l => by rw [pay4_T h0 h1]; exact hT _
  have z : ∀ {x : FVec Ideal S256x128 .f32}, (∀ r l, ∃ a : ℝ, x (ix2 r l) = a) → ∀ r l, ∃ a : ℝ, rest (F := Ideal) x (ix2 r l) = a :=
    fun h r l => ⟨0, by rw [rest_at _ r l (h r l)]; rfl⟩
  refine ⟨spiece_of hO2 hct (by omega) o2 fun r l => ?_, spiece_of hO1 hct (by omega) o1 fun r l => ?_, spiece_of hO0 hct (by omega) o0 fun r l => ?_,
    spiece_of hE2 hct (by omega) e2 fun r l => ?_, spiece_of hE1 hct (by omega) e1 fun r l => ?_, spiece_of hE0 hct (by omega) e0 fun r l => ?_, hL⟩
  · exact (part_at _ r l).trans (rest_at _ r l (z f4 r l))
  · exact (part_at _ r l).trans (rest_at _ r l (f4 r l))
  · exact (part_at _ r l).trans (pay4_T h0 h1 r l)
  · exact (part_at _ r l).trans (rest_at _ r l (z f3 r l))
  · exact (part_at _ r l).trans (rest_at _ r l (f3 r l))
  · exact (part_at _ r l).trans (pay3_T h0 h1 r l)

/-- A tile of the table, read. -/
theorem ldT_isT (arg3 : Memref sig .tc .vmem S256x1280 .f32) (X : BufTy.Contents (Elt Ideal) arg3.view.ty) {A : Fin 2 → ℕ}
    (h : ∀ a, A a + S256x128.size a ≤ S256x1280.size a) {C : ℕ} (ho : A = ![0, C]) : IsT (arg3.view.read (Elt Ideal) X) C (ldT arg3 X A h) := by
  subst ho
  intro r l
  have h1 : C + 128 ≤ 1280 := h 1
  refine congrArg (arg3.view.read (Elt Ideal) X) (funext fun a => ?_)
  fin_cases a
  · exact Fin.ext (by show 0 + 1 * _ = _; rw [one_mul, Nat.zero_add]; rfl)
  · exact ofN_of_lt 1280 (by omega) _ (by show _ + 1 * _ = _; rw [one_mul]; rfl)

/-- Every store of the first grid point into the parts holds them at its place. -/
theorem parts_pieces (c : Dev nD) (arg3 : Memref sig .tc .vmem S256x1280 .f32) (harg3 : arg3.IsWhole) (x2 : S256x1280.Idx → Elt Ideal .f32) (hT : FinT x2) :
    View.PiecesOf (partsG x2) (kernelRun0_A.sl.HS0_30 (F := Ideal) c arg3 harg3 x2) := by
  rw [parts_eq]
  have hr : arg3.view.read (Elt Ideal) (harg3.unread x2) = x2 := Memref.IsWhole.read_unread (Val := Elt Ideal) harg3 x2
  have t : ∀ {A : Fin 2 → ℕ} (h : ∀ a, A a + S256x128.size a ≤ S256x1280.size a) {C : ℕ} (_ : A = ![0, C]), IsT x2 C (ldT arg3 (harg3.unread x2) A h) :=
    fun h _ ho => by have := ldT_isT arg3 (harg3.unread x2) h ho; rwa [hr] at this
  exact six_pieces hT (ct := 4) (by omega) (t _ rfl) (t _ rfl) rfl rfl rfl rfl rfl rfl
    (six_pieces hT (ct := 3) (by omega) (t _ rfl) (t _ rfl) rfl rfl rfl rfl rfl rfl
    (six_pieces hT (ct := 2) (by omega) (t _ rfl) (t _ rfl) rfl rfl rfl rfl rfl rfl
    (six_pieces hT (ct := 1) (by omega) (t _ rfl) (t _ rfl) rfl rfl rfl rfl rfl rfl
    (six_pieces hT (ct := 0) (by omega) (t _ rfl) (t _ rfl) rfl rfl rfl rfl rfl rfl trivial))))

/-- The side block's byte ids: whole numbers below 256. -/
def IsIds (S : S64x128.Idx → EReal) (id : ℕ → ℕ → Fin 256) : Prop :=
  ∀ (R : Fin 64) (j : Fin 4), S (ix2 R (ofN 128 (24 + j.val))) = (((id R.val j.val).val : ℝ) : EReal)

/-- The byte id of row `R` of a block. -/
def idOf (id : ℕ → ℕ → Fin 256) (R : ℕ) : Fin 256 := id (8 * (R / 32) + R % 8) (R / 8 % 4)

/-- The one-hot matrix at a row. -/
theorem ohCat_at (arg2 : Memref sig .tc .vmem S64x128 .f32) (X2 : BufTy.Contents (Elt Ideal) arg2.view.ty) {id : ℕ → ℕ → Fin 256}
    (hid : IsIds (arg2.view.read (Elt Ideal) X2) id) (R t : Fin 256) :
    ohCat (F := Ideal) (ldX arg2 X2) (ix2 R t) = if t = idOf id R.val then (1 : EReal) else 0 := by
  have hR := R.isLt
  have e := concatenate_ofFn_apply (t := S256x256) (s₁ := S8x256) 0 (ohRows (F := Ideal) (ldX arg2 X2)) (ohCat_conc _) rfl 8 rfl (ix2 R t)
    (Fin.ofNat 32 (R.val / 8)) (by show R.val / 8 = R.val / 8 % 32; omega) (ix2 (ofN 8 R.val) t) rfl
    (fun b hb => by fin_cases b; exact absurd rfl hb; rfl)
  refine (show ohCat (F := Ideal) (ldX arg2 X2) (ix2 R t) = _ from e).trans ?_
  unfold ohRows
  rw [ohV_at _ _ (by omega)]
  have hs : ldX arg2 X2 (Fin.ofNat 8 ((Fin.ofNat 32 (R.val / 8)).val / 4)) (ix2 (ofN 8 R.val) ⟨24 + (Fin.ofNat 4 (Fin.ofNat 32 (R.val / 8)).val).val, by omega⟩)
      = (((idOf id R.val).val : ℝ) : EReal) := by
    refine Eq.trans ?_ (hid (ofN 64 (8 * (R.val / 32) + R.val % 8)) (ofN 4 (R.val / 8))) |>.trans ?_
    · refine congrArg (arg2.view.read (Elt Ideal) X2) (funext fun a => ?_)
      fin_cases a
      · refine Fin.ext ?_
        show 8 * (R.val / 8 % 32 / 4 % 8) + 1 * (R.val % 8) = (8 * (R.val / 32) + R.val % 8) % 64
        omega
      · refine Fin.ext ?_
        show 0 + 1 * (24 + R.val / 8 % 32 % 4) = (24 + R.val / 8 % 4) % 128
        omega
    · unfold idOf
      have e1 : (ofN 64 (8 * (R.val / 32) + R.val % 8)).val = 8 * (R.val / 32) + R.val % 8 := Nat.mod_eq_of_lt (by omega)
      have e2 : (ofN 4 (R.val / 8)).val = R.val / 8 % 4 := rfl
      rw [e1, e2]
  rw [hs]
  refine if_congr ?_ rfl rfl
  rw [EReal.coe_eq_coe_iff, Nat.cast_inj, Fin.val_inj]

/-- A byte row is a row of the table, its columns in the order of the code words. -/
theorem bytes_at (arg2 : Memref sig .tc .vmem S64x128 .f32) (X2 : BufTy.Contents (Elt Ideal) arg2.view.ty) {id : ℕ → ℕ → Fin 256}
    (hid : IsIds (arg2.view.read (Elt Ideal) X2) id) (arg5 : Memref sig .tc .vmem S3x256x1280 .bf16) (X5 : BufTy.Contents (Elt Ideal) arg5.view.ty)
    {T : S256x1280.Idx → EReal} (hP : arg5.view.read (Elt Ideal) X5 = partsG T) (R : Fin 256) (D : Fin 1280) :
    bytesOf (F := Ideal) arg2 X2 arg5 X5 (ix2 R D) = T (ix2 (idOf id R.val) (ofN 1280 (colOf D.val))) := by
  have hq : ∀ (p : ℕ) (h) (t : Fin 256), ldQ (F := Ideal) arg5 X5 p h (ix3 0 t D) = if p = 0 then T (ix2 t (ofN 1280 (colOf D.val))) else (0 : EReal) := by
    intro p h t
    show arg5.view.read (Elt Ideal) X5 _ = _
    rw [hP]
    show (if p + 1 * 0 = 0 then T (ix2 (ofN 256 (0 + 1 * t.val)) (ofN 1280 (colOf (0 + 1 * D.val)))) else (0 : EReal)) = _
    rw [Nat.one_mul, Nat.one_mul, Nat.zero_add, Nat.zero_add, ← ofN_of_lt 256 t.isLt t rfl, Nat.add_zero, Nat.one_mul]
  unfold bytesOf
  rw [pay1_at]
  have s : ∀ g : Fin 256 → EReal, (∑ t : Fin 256, ohCat (F := Ideal) (ldX arg2 X2) (ix2 R t) * g t) = g (idOf id R.val) := by
    intro g
    rw [Finset.sum_eq_single (idOf id R.val)]
    · rw [ohCat_at arg2 X2 hid, if_pos rfl, one_mul]
    · intro t _ ht
      rw [ohCat_at arg2 X2 hid, if_neg ht, zero_mul]
    · intro h; exact absurd (Finset.mem_univ _) h
  rw [s (fun t => ldQ arg5 X5 0 _ (ix3 0 t D)), s (fun t => ldQ arg5 X5 1 _ (ix3 0 t D)), s (fun t => ldQ arg5 X5 2 _ (ix3 0 t D)), hq, hq, hq]
  simp

end Cert.KernelIdeal.Val
-- ==== Proof.Block.lean ====
module

public import proofs.«01_k».proof.Proof.ByteRows

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- The trips' stores cover a later grid point's block. -/
theorem cov_B (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0 : ¬cond0_0 i) (x0 : Vec F S6x8x5x8x128 .i32) (x1 : Vec F S64x128 .f32) (x2 : Vec F S256x1280 .f32) (xs0 : Vec F S3x256x1280 .bf16) (y : S256x1280.Idx) :
    ∃ p ∈ pb_k0_t1 (F := F) Variants.none c none i arg1 harg1 arg2 harg2 arg3 harg3 arg4 harg4 arg5 harg5 arg6 harg6 (iota .tc S8x128 32 [1] iota_S8x128_d1_w32) k0_pay516 (harg1.unread x0) (harg2.unread x1)
        (arg6.view.writes (Elt F) arg6.view.junk [⟨Rect.unit (s := S256x1280) ![0, 0] ![256, 1280] inb_S256x1280_S256x1280_0_0, bytesOf arg2 (harg2.unread x1) arg5 (harg5.unread xs0)⟩]) k0_t1_loop.trips, y ∈ p.1.set := by
  have h := cover0_B_3 (F := F) c i arg1 harg1 arg2 harg2 arg3 harg3 arg4 harg4 arg5 harg5 arg6 harg6 hc0 x0 x1 x2 xs0 y
  unfold kernelRun0_B at h
  dsimp only at h
  rw [HS1_B] at h
  exact h

/-- … and the first grid point's. -/
theorem cov_A (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0 : cond0_0 i) (x0 : Vec F S6x8x5x8x128 .i32) (x1 : Vec F S64x128 .f32) (x2 : Vec F S256x1280 .f32) (y : S256x1280.Idx) :
    ∃ p ∈ pb_k0_t1 (F := F) Variants.none c none i arg1 harg1 arg2 harg2 arg3 harg3 arg4 harg4 arg5 harg5 arg6 harg6 (iota .tc S8x128 32 [1] iota_S8x128_d1_w32) k0_pay516 (harg1.unread x0) (harg2.unread x1)
        (arg6.view.writes (Elt F) arg6.view.junk [⟨Rect.unit (s := S256x1280) ![0, 0] ![256, 1280] inb_S256x1280_S256x1280_0_0, bytesOf arg2 (harg2.unread x1) arg5 (arg5.view.writes (Elt F) arg5.view.junk (kernelRun0_A.sl.HS0_30 (F := F) c arg3 harg3 x2))⟩]) k0_t1_loop.trips, y ∈ p.1.set := by
  have h := cover0_A_3 (F := F) c i arg1 harg1 arg2 harg2 arg3 harg3 arg4 harg4 arg5 harg5 arg6 harg6 hc0 x0 x1 x2 y
  unfold kernelRun0_A at h
  dsimp only at h
  rw [HS1_A] at h
  exact h

/-- The first grid point's stores cover the parts. -/
theorem scov_A (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0 : cond0_0 i) (x0 : Vec F S6x8x5x8x128 .i32) (x1 : Vec F S64x128 .f32) (x2 : Vec F S256x1280 .f32) (y : S3x256x1280.Idx) :
    ∃ p ∈ kernelRun0_A.sl.HS0_30 (F := F) c arg3 harg3 x2, y ∈ p.1.set :=
  scover0_A_0 (F := F) c i arg1 harg1 arg2 harg2 arg3 harg3 arg4 harg4 arg5 harg5 arg6 harg6 hc0 x0 x1 x2 y

/-- Stores of two lists, all blocks of one array. -/
theorem piecesOf_append {Val : EltTy → Type} {s : Shape} {e : EltTy} {G : s.Idx → Val e} : ∀ {L L' : List (View.Piece Val s e)}, View.PiecesOf G L → View.PiecesOf G L' → View.PiecesOf G (L ++ L')
  | [], _, _, h' => h'
  | _ :: _, _, h, h' => ⟨h.1, piecesOf_append h.2 h'⟩

/-- Every store of the first `k` trips holds the block's elements at its place. -/
theorem pb_pieces (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole)
    (X_arg1 : BufTy.Contents (Elt Ideal) arg1.view.ty) (X_arg2 : BufTy.Contents (Elt Ideal) arg2.view.ty) (X_arg6 : BufTy.Contents (Elt Ideal) arg6.view.ty)
    (hS : FinS (arg2.view.read (Elt Ideal) X_arg2)) : ∀ k : ℕ, k ≤ k0_t1_loop.trips →
    View.PiecesOf (gG (arg1.view.read (Elt Ideal) X_arg1) (arg2.view.read (Elt Ideal) X_arg2) (arg6.view.read (Elt Ideal) X_arg6))
      (pb_k0_t1 (F := Ideal) Variants.none c none i arg1 harg1 arg2 harg2 arg3 harg3 arg4 harg4 arg5 harg5 arg6 harg6 (iota .tc S8x128 32 [1] iota_S8x128_d1_w32) k0_pay516 X_arg1 X_arg2 X_arg6 k)
  | 0, _ => trivial
  | k + 1, hk => by
    have e := pb_k0_t1_succ (F := Ideal) Variants.none c none i arg1 harg1 arg2 harg2 arg3 harg3 arg4 harg4 arg5 harg5 arg6 harg6 (iota .tc S8x128 32 [1] iota_S8x128_d1_w32) k0_pay516 X_arg1 X_arg2 X_arg6 ⟨k, hk⟩
    rw [show k + 1 = (⟨k, hk⟩ : Fin k0_t1_loop.trips).val + 1 from rfl, e]
    exact piecesOf_append (trip_pieces Variants.none c none i arg1 harg1 arg2 harg2 arg3 harg3 arg4 harg4 arg5 harg5 arg6 harg6 X_arg1 X_arg2 X_arg6 ⟨k, hk⟩ hS)
      (pb_pieces c i arg1 harg1 arg2 harg2 arg3 harg3 arg4 harg4 arg5 harg5 arg6 harg6 X_arg1 X_arg2 X_arg6 hS k (Nat.le_of_succ_le hk))

/-- A block's output: words, scales, byte ids and the table. -/
def blockG (W : S6x8x5x8x128.Idx → BitVec 32) (S : S64x128.Idx → EReal) (T : S256x1280.Idx → EReal) (id : ℕ → ℕ → Fin 256) : S256x1280.Idx → Elt Ideal .bf16 :=
  gG W S (fun y => T (ix2 (idOf id (y (0 : Fin 2)).val) (ofN 1280 (colOf (y (1 : Fin 2)).val))))

/-- The byte rows, stored over the whole scratch and read back. -/
theorem read_bytes (arg2 : Memref sig .tc .vmem S64x128 .f32) (harg2 : arg2.IsWhole) (arg6 : Memref sig .tc .vmem S256x1280 .f32) (x1 : S64x128.Idx → Elt Ideal .f32) {id : ℕ → ℕ → Fin 256}
    (hid : IsIds x1 id) (arg5 : Memref sig .tc .vmem S3x256x1280 .bf16) (X5 : BufTy.Contents (Elt Ideal) arg5.view.ty)
    {T : S256x1280.Idx → EReal} (hP : arg5.view.read (Elt Ideal) X5 = partsG T) :
    arg6.view.read (Elt Ideal) (arg6.view.writes (Elt Ideal) arg6.view.junk [⟨Rect.unit (s := S256x1280) ![0, 0] ![256, 1280] inb_S256x1280_S256x1280_0_0, bytesOf arg2 (harg2.unread x1) arg5 X5⟩])
      = fun y => T (ix2 (idOf id (y (0 : Fin 2)).val) (ofN 1280 (colOf (y (1 : Fin 2)).val))) := by
  have hid' : IsIds (arg2.view.read (Elt Ideal) (harg2.unread x1)) id := by
    rw [Memref.IsWhole.read_unread (Val := Elt Ideal) harg2 x1]; exact hid
  rw [View.read_writes_junk_eq_canon]
  have hz : (![0, 0] : Fin 2 → ℕ) = fun _ => 0 := funext fun a => by fin_cases a <;> rfl
  refine (View.canon_unit_zero (S := S256x1280) hz _ _).trans (funext fun y => ?_)
  exact (congrArg _ (eq_ix2 y)).trans (bytes_at arg2 _ hid' arg5 X5 hP _ _)

/-- A later grid point's block. -/
theorem out_B_eq (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0) (x0 : S6x8x5x8x128.Idx → Elt Ideal .i32) (x1 : S64x128.Idx → Elt Ideal .f32) (x2 : S256x1280.Idx → Elt Ideal .f32) {T : S256x1280.Idx → EReal}
    (hS : FinS x1) {id : ℕ → ℕ → Fin 256} (hid : IsIds x1 id) :
    out0_B_3 (F := Ideal) c i arg1 harg1 arg2 harg2 arg3 harg3 arg4 harg4 arg5 harg5 arg6 harg6 hc0 x0 x1 x2 (partsG T) = blockG x0 x1 T id := by
  rw [out_B]
  funext y
  have r1 := Memref.IsWhole.read_unread (Val := Elt Ideal) harg1 x0
  have r2 := Memref.IsWhole.read_unread (Val := Elt Ideal) harg2 x1
  have r6 := read_bytes arg2 harg2 arg6 x1 hid arg5 (harg5.unread (partsG T)) (Memref.IsWhole.read_unread (Val := Elt Ideal) harg5 (partsG T))
  have hp := pb_pieces c i arg1 harg1 arg2 harg2 arg3 harg3 arg4 harg4 arg5 harg5 arg6 harg6 (harg1.unread x0) (harg2.unread x1) (arg6.view.writes (Elt Ideal) arg6.view.junk [⟨Rect.unit (s := S256x1280) ![0, 0] ![256, 1280] inb_S256x1280_S256x1280_0_0, bytesOf arg2 (harg2.unread x1) arg5 (harg5.unread (partsG T))⟩]) (by rw [r2]; exact hS) _ le_rfl
  rw [r1, r2, r6] at hp
  have h := View.canon_append_of_piecesOf _ [] _ hp y (cov_B c i arg1 harg1 arg2 harg2 arg3 harg3 arg4 harg4 arg5 harg5 arg6 harg6 hc0 x0 x1 x2 (partsG T) y)
  rw [List.append_nil] at h
  exact h

/-- The parts the first grid point leaves. -/
theorem sout_A_eq (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0) (x0 x1) (x2 : S256x1280.Idx → Elt Ideal .f32) (hT : FinT x2) :
    sout0_A_0 (F := Ideal) c i arg1 harg1 arg2 harg2 arg3 harg3 arg4 harg4 arg5 harg5 arg6 harg6 hc0 x0 x1 x2 = partsG x2 := by
  rw [sout_A]
  funext y
  have h := View.canon_append_of_piecesOf _ [] _ (parts_pieces c arg3 harg3 x2 hT) y (scov_A c i arg1 harg1 arg2 harg2 arg3 harg3 arg4 harg4 arg5 harg5 arg6 harg6 hc0 x0 x1 x2 y)
  rw [List.append_nil] at h
  exact h

/-- The first grid point's block. -/
theorem out_A_eq (c : Dev nD) (i : grid0.Coords) (arg1 : Memref sig .tc .vmem S6x8x5x8x128 .i32) (harg1 : arg1.IsWhole) (arg2 : Memref sig .tc .vmem S64x128 .f32) (harg2 : arg2.IsWhole) (arg3 : Memref sig .tc .vmem S256x1280 .f32) (harg3 : arg3.IsWhole) (arg4 : Memref sig .tc .vmem S256x1280 .bf16) (harg4 : arg4.IsWhole) (arg5 : Memref sig .tc .vmem S3x256x1280 .bf16) (harg5 : arg5.IsWhole) (arg6 : Memref sig .tc .vmem S256x1280 .f32) (harg6 : arg6.IsWhole) (hc0) (x0 : S6x8x5x8x128.Idx → Elt Ideal .i32) (x1 : S64x128.Idx → Elt Ideal .f32) (x2 : S256x1280.Idx → Elt Ideal .f32) (hT : FinT x2)
    (hS : FinS x1) {id : ℕ → ℕ → Fin 256} (hid : IsIds x1 id) :
    out0_A_3 (F := Ideal) c i arg1 harg1 arg2 harg2 arg3 harg3 arg4 harg4 arg5 harg5 arg6 harg6 hc0 x0 x1 x2 = blockG x0 x1 x2 id := by
  have hP : arg5.view.read (Elt Ideal) (arg5.view.writes (Elt Ideal) arg5.view.junk (kernelRun0_A.sl.HS0_30 (F := Ideal) c arg3 harg3 x2)) = partsG x2 := by
    rw [View.read_writes_junk_eq_canon, ← sout_A c i arg1 harg1 arg2 harg2 arg3 harg3 arg4 harg4 arg5 harg5 arg6 harg6 hc0 x0 x1 x2]
    exact sout_A_eq c i arg1 harg1 arg2 harg2 arg3 harg3 arg4 harg4 arg5 harg5 arg6 harg6 hc0 x0 x1 x2 hT
  rw [out_A]
  funext y
  have r1 := Memref.IsWhole.read_unread (Val := Elt Ideal) harg1 x0
  have r2 := Memref.IsWhole.read_unread (Val := Elt Ideal) harg2 x1
  have r6 := read_bytes arg2 harg2 arg6 x1 hid arg5 _ hP
  have hp := pb_pieces c i arg1 harg1 arg2 harg2 arg3 harg3 arg4 harg4 arg5 harg5 arg6 harg6 (harg1.unread x0) (harg2.unread x1) (arg6.view.writes (Elt Ideal) arg6.view.junk [⟨Rect.unit (s := S256x1280) ![0, 0] ![256, 1280] inb_S256x1280_S256x1280_0_0, bytesOf arg2 (harg2.unread x1) arg5 (arg5.view.writes (Elt Ideal) arg5.view.junk (kernelRun0_A.sl.HS0_30 (F := Ideal) c arg3 harg3 x2))⟩]) (by rw [r2]; exact hS) _ le_rfl
  rw [r1, r2, r6] at hp
  have h := View.canon_append_of_piecesOf _ [] _ hp y (cov_A c i arg1 harg1 arg2 harg2 arg3 harg3 arg4 harg4 arg5 harg5 arg6 harg6 hc0 x0 x1 x2 y)
  rw [List.append_nil] at h
  exact h

end Cert.KernelIdeal.Val
-- ==== Proof.Array.lean ====
module

public import proofs.«01_k».proof.Proof.Block

@[expose] public section

set_option maxRecDepth 16384

noncomputable section

namespace Cert.KernelIdeal.Val

open Cert.KernelIdeal Cert.KernelIdeal.Gen Cert.KernelIdeal.Value Cert.Arith Idealize.ShloMosaic Idealize.ShloMosaic.TcCoe Idealize.SL.Sem

variable (m : (ℓ : Loc nD τ sig) → Buf (Elt Ideal) ℓ)

/-- The gathered code words, as launched. -/
abbrev aW (c : Dev nD) : S6x512x5x8x128.Idx → BitVec 32 := m ((c : Thread nD τ).loc main_arg0)
/-- The gathered scales and byte ids. -/
abbrev aS (c : Dev nD) : S4096x128.Idx → EReal := m ((c : Thread nD τ).loc main_arg1)
/-- The byte table. -/
abbrev aT (c : Dev nD) : S256x1280.Idx → EReal := m ((c : Thread nD τ).loc main_arg2)

/-- Where the input windows stand at each grid point. -/
theorem idx_in : ∀ t : Fin cfg0.N, (win0_0.index t (0 : Fin 5) = 0 ∧ win0_0.index t (1 : Fin 5) = t.val ∧ win0_0.index t (2 : Fin 5) = 0 ∧ win0_0.index t (3 : Fin 5) = 0 ∧ win0_0.index t (4 : Fin 5) = 0)
    ∧ (win0_1.index t (0 : Fin 2) = t.val ∧ win0_1.index t (1 : Fin 2) = 0) ∧ (win0_2.index t (0 : Fin 2) = 0 ∧ win0_2.index t (1 : Fin 2) = 0) :=
  (by decide +kernel : ∀ t : Fin grid0.N, _)

/-- A block of the code words. -/
theorem iblk0_at (c : Dev nD) (t : Fin cfg0.N) (a : Fin 6) (k : Fin 8) (e : Fin 5) (r : Fin 8) (l : Fin 128) :
    (iblk m c 0 t : Vec Ideal S6x8x5x8x128 .i32) (ix5 a k e r l) = aW m c (ix5 a (ofN 512 (8 * t.val + k.val)) e r l) := by
  have ht : t.val < 64 := lt_of_lt_of_eq t.isLt N_0
  obtain ⟨⟨h0, h1, h2, h3, h4⟩, -, -⟩ := idx_in t
  unfold iblk
  rw [View.read_apply]
  show V m c main_arg0 _ = m (c.tc.loc main_arg0) _
  unfold V
  congr 1
  funext x
  apply Fin.ext
  match x with
  | ⟨0, _⟩ => show win0_0.index t 0 * 6 + 1 * a.val = a.val; rw [h0]; omega
  | ⟨1, _⟩ => show win0_0.index t 1 * 8 + 1 * k.val = (8 * t.val + k.val) % 512; rw [h1]; omega
  | ⟨2, _⟩ => show win0_0.index t 2 * 5 + 1 * e.val = e.val; rw [h2]; omega
  | ⟨3, _⟩ => show win0_0.index t 3 * 8 + 1 * r.val = r.val; rw [h3]; omega
  | ⟨4, _⟩ => show win0_0.index t 4 * 128 + 1 * l.val = l.val; rw [h4]; omega

/-- A block of the scales and ids. -/
theorem iblk1_at (c : Dev nD) (t : Fin cfg0.N) (r : Fin 64) (l : Fin 128) :
    (iblk m c 1 t : Vec Ideal S64x128 .f32) (ix2 r l) = aS m c (ix2 (ofN 4096 (64 * t.val + r.val)) l) := by
  have ht : t.val < 64 := lt_of_lt_of_eq t.isLt N_0
  obtain ⟨-, ⟨h0, h1⟩, -⟩ := idx_in t
  unfold iblk
  rw [View.read_apply]
  show V m c main_arg1 _ = m (c.tc.loc main_arg1) _
  unfold V
  congr 1
  funext x
  apply Fin.ext
  match x with
  | ⟨0, _⟩ => show win0_1.index t 0 * 64 + 1 * r.val = (64 * t.val + r.val) % 4096; rw [h0]; omega
  | ⟨1, _⟩ => show win0_1.index t 1 * 128 + 1 * l.val = l.val; rw [h1]; omega

/-- The table is one block. -/
theorem iblk2_eq (c : Dev nD) (t : Fin cfg0.N) : (iblk m c 2 t : Vec Ideal S256x1280 .f32) = aT m c := by
  obtain ⟨-, -, ⟨h0, h1⟩⟩ := idx_in t
  funext y
  unfold iblk
  rw [View.read_apply]
  show V m c main_arg2 _ = m (c.tc.loc main_arg2) _
  unfold V
  congr 1
  funext x
  apply Fin.ext
  match x with
  | ⟨0, _⟩ => show win0_2.index t 0 * 256 + 1 * (y 0).val = (y 0).val; rw [h0]; omega
  | ⟨1, _⟩ => show win0_2.index t 1 * 1280 + 1 * (y 1).val = (y 1).val; rw [h1]; omega

/-- What the arguments are taken to be: the scales and the table are numbers, and the ids are whole numbers below 256. -/
structure Good (S : S4096x128.Idx → EReal) (T : S256x1280.Idx → EReal) (id : ℕ → ℕ → Fin 256) : Prop where
  scale : ∀ (R : Fin 4096) (q : Fin 6) (j : Fin 4), ∃ a : ℝ, S (ix2 R (ofN 128 (4 * q + j))) = a
  table : FinT T
  ids : ∀ (R : Fin 4096) (j : Fin 4), S (ix2 R (ofN 128 (24 + j.val))) = (((id R.val j.val).val : ℝ) : EReal)

variable {m}

/-- The scales of a block are numbers. -/
theorem blk_fin {c : Dev nD} {id : ℕ → ℕ → Fin 256} (h : Good (aS m c) (aT m c) id) (t : Fin cfg0.N) : FinS (iblk m c 1 t : Vec Ideal S64x128 .f32) := by
  intro R q j
  obtain ⟨a, ha⟩ := h.scale (ofN 4096 (64 * t.val + (ofN 64 R).val)) q j
  exact ⟨a, (iblk1_at m c t _ _).trans ha⟩

/-- The ids of a block. -/
theorem blk_ids {c : Dev nD} {id : ℕ → ℕ → Fin 256} (h : Good (aS m c) (aT m c) id) (t : Fin cfg0.N) :
    IsIds (iblk m c 1 t : Vec Ideal S64x128 .f32) (fun R j => id (64 * t.val + R) j) := by
  intro R j
  have ht : t.val < 64 := lt_of_lt_of_eq t.isLt N_0
  refine (iblk1_at m c t _ _).trans ((h.ids _ j).trans ?_)
  have e : (ofN 4096 (64 * t.val + R.val)).val = 64 * t.val + R.val := Nat.mod_eq_of_lt (by omega)
  rw [e]

/-- A grid point's block. -/
def ptG (m : (ℓ : Loc nD τ sig) → Buf (Elt Ideal) ℓ) (c : Dev nD) (id : ℕ → ℕ → Fin 256) (t : Fin cfg0.N) : Vec Ideal S256x1280 .bf16 :=
  blockG (iblk m c 0 t : Vec Ideal S6x8x5x8x128 .i32) (iblk m c 1 t : Vec Ideal S64x128 .f32) (aT m c) (fun R j => id (64 * t.val + R) j)

/-- The first grid point. -/
theorem st_A {c : Dev nD} {id : ℕ → ℕ → Fin 256} (h : Good (aS m c) (aT m c) id) (t : Fin cfg0.N) (h0 : t.val % 64 = 0) (acc) :
    stAt0 m c t.val t.isLt acc = (ptG m c id t, partsG (aT m c)) := by
  have e2 := iblk2_eq m c t
  have hT : FinT (iblk m c 2 t : Vec Ideal S256x1280 .f32) := by rw [e2]; exact h.table
  have hs := blk_fin h t
  have hi := blk_ids h t
  rw [stAt0_A m c t acc h0]
  refine congrArg₂ Prod.mk ?_ ?_
  · rw [out_A_eq c _ _ _ _ _ _ _ _ _ _ _ _ _ _ _ _ _ hT hs hi]
    unfold ptG
    rw [e2]
  · rw [sout_A_eq c _ _ _ _ _ _ _ _ _ _ _ _ _ _ _ _ _ hT, e2]

/-- A later grid point. -/
theorem st_B {c : Dev nD} {id : ℕ → ℕ → Fin 256} (h : Good (aS m c) (aT m c) id) (t : Fin cfg0.N) (h0 : ¬t.val % 64 = 0) (o) :
    stAt0 m c t.val t.isLt (o, partsG (aT m c)) = (ptG m c id t, partsG (aT m c)) := by
  have hs := blk_fin h t
  have hi := blk_ids h t
  rw [stAt0_B m c t _ h0]
  refine congrArg₂ Prod.mk ?_ ?_
  · exact out_B_eq c _ _ _ _ _ _ _ _ _ _ _ _ _ _ _ _ _ hs hi
  · rfl

/-- After every grid point: that point's block, and the parts. -/
theorem fold_eq {c : Dev nD} {id : ℕ → ℕ → Fin 256} (h : Good (aS m c) (aT m c) id) : ∀ (n : ℕ) (hn : 0 + n < cfg0.N),
    Pipeline.accAt (fun n h => stAt0 m c n h junk0) (stAt0 m c) 0 n hn = (ptG m c id ⟨n, by omega⟩, partsG (aT m c))
  | 0, hn => by
    rw [Pipeline.accAt_zero]
    exact st_A h ⟨0, hn⟩ rfl _
  | n + 1, hn => by
    have ht : n + 1 < cfg0.N := by omega
    have hN : n + 1 < 64 := lt_of_lt_of_eq ht N_0
    rw [Pipeline.accAt_succ, fold_eq h n (by omega)]
    have e : ∀ (k : ℕ) (hk : k < cfg0.N) (acc), k = n + 1 → stAt0 m c k hk acc = stAt0 m c (n + 1) ht acc := by
      rintro k hk acc rfl; rfl
    rw [e _ _ _ (by omega)]
    exact st_B h ⟨n + 1, ht⟩ (by show ¬(n + 1) % 64 = 0; omega) _

/-- The result at a token and a column: the token's table row, and six times a code times its scale. -/
def fin (W : S6x512x5x8x128.Idx → BitVec 32) (S : S4096x128.Idx → EReal) (T : S256x1280.Idx → EReal) (id : ℕ → ℕ → Fin 256) (R C : ℕ) : EReal :=
  let K := R / 32
  let j := 2 * (R % 32 / 16) + R % 2
  let r := R % 16 / 2
  let L := 2 * (C % 128 / 2) + C % 256 / 128
  let s : ℕ → EReal := fun q => S (ix2 (ofN 4096 (8 * K + r)) (ofN 128 (4 * q + j)))
  let n : ℕ → ℤ := fun q => (nib (W (ix5 (ofN 6 q) (ofN 512 K) (ofN 5 (C / 256)) (ofN 8 r) (ofN 128 L))) (8 * j + 4 * (C % 2))).toInt
  total (T (ix2 (id (8 * K + r) j) (ofN 1280 C))) (s 0) (s 1) (s 2) (s 3) (s 4) (s 5) (n 0) (n 1) (n 2) (n 3) (n 4) (n 5)

/-- The table column behind a column of a part. -/
theorem colOf_eq {n ct L : ℕ} (hn : n < 2) (hct : ct < 5) (hL : L < 128) : colOf (640 * n + 128 * ct + L) = 256 * ct + 128 * (L % 2) + 2 * (L / 2) + n := by
  unfold colOf; omega

/-- A block's element is the result's, at its token. -/
theorem ptG_at (m : (ℓ : Loc nD τ sig) → Buf (Elt Ideal) ℓ) (c : Dev nD) (id : ℕ → ℕ → Fin 256) (t : Fin cfg0.N) (y : S256x1280.Idx) {R C : ℕ}
    (hR : R = 256 * t.val + (y (0 : Fin 2)).val) (hC : C = (y (1 : Fin 2)).val) :
    ptG m c id t y = fin (aW m c) (aS m c) (aT m c) id R C := by
  have ht : t.val < 64 := lt_of_lt_of_eq t.isLt N_0
  have h0 : (y (0 : Fin 2)).val < 256 := (y (0 : Fin 2)).isLt
  have h1 : (y (1 : Fin 2)).val < 1280 := (y (1 : Fin 2)).isLt
  unfold ptG blockG gG
  rw [← hC]
  rw [← hC] at h1
  generalize (y (0 : Fin 2)).val = R' at *
  unfold gAt gE fin
  dsimp only
  have e1 : R % 32 = R' % 32 := by omega
  have e2 : R % 16 = R' % 16 := by omega
  have e3 : R % 2 = R' % 2 := by omega
  have eK : R / 32 = 8 * t.val + R' / 32 := by omega
  rw [e1, e2, e3, eK]
  have hj : 2 * (R' % 32 / 16) + R' % 2 < 4 := by omega
  have hr : R' % 16 / 2 < 8 := by omega
  have hk : R' / 32 < 8 := by omega
  have hL : 2 * (C % 128 / 2) + C % 256 / 128 < 128 := by omega
  have hcol : colOf (640 * (C % 2) + 128 * (C / 256) + (2 * (C % 128 / 2) + C % 256 / 128)) = C := by
    rw [colOf_eq (by omega) (by omega) (by omega)]; omega
  have hD : 640 * (C % 2) + 128 * (C / 256) + (2 * (C % 128 / 2) + C % 256 / 128) < 1280 := by omega
  generalize 2 * (R' % 32 / 16) + R' % 2 = j at *
  generalize R' % 16 / 2 = r at *
  generalize R' / 32 = k at *
  generalize 640 * (C % 2) + 128 * (C / 256) + (2 * (C % 128 / 2) + C % 256 / 128) = D at *
  generalize 2 * (C % 128 / 2) + C % 256 / 128 = L at *
  have hS : ∀ q, (iblk m c 1 t : Vec Ideal S64x128 .f32) (ix2 (ofN 64 (8 * k + r)) (ofN 128 q)) = aS m c (ix2 (ofN 4096 (8 * (8 * t.val + k) + r)) (ofN 128 q)) := by
    intro q
    refine (iblk1_at m c t _ _).trans (congrArg (fun x => aS m c (ix2 x (ofN 128 q))) (Fin.ext ?_))
    show (64 * t.val + (8 * k + r) % 64) % 4096 = (8 * (8 * t.val + k) + r) % 4096
    omega
  have hW : ∀ q s, (nib ((iblk m c 0 t : Vec Ideal S6x8x5x8x128 .i32) (ix5 (ofN 6 q) (ofN 8 k) (ofN 5 (C / 256)) (ofN 8 r) (ofN 128 L))) s).toInt
      = (nib (aW m c (ix5 (ofN 6 q) (ofN 512 (8 * t.val + k)) (ofN 5 (C / 256)) (ofN 8 r) (ofN 128 L))) s).toInt := by
    intro q s
    rw [iblk0_at m c t]
    have e : ofN 512 (8 * t.val + (ofN 8 k).val) = ofN 512 (8 * t.val + k) := Fin.ext (by show (8 * t.val + k % 8) % 512 = (8 * t.val + k) % 512; omega)
    rw [e]
  have hT : aT m c (ix2 (idOf (fun R j => id (64 * t.val + R) j) (ofN 256 (32 * k + 8 * j + r)).val) (ofN 1280 (colOf (ofN 1280 D).val)))
      = aT m c (ix2 (id (8 * (8 * t.val + k) + r) j) (ofN 1280 C)) := by
    have f1 : (ofN 256 (32 * k + 8 * j + r)).val = 32 * k + 8 * j + r := Nat.mod_eq_of_lt (by omega)
    have f2 : (ofN 1280 D).val = D := Nat.mod_eq_of_lt hD
    rw [f1, f2, hcol]
    unfold idOf
    have g1 : 64 * t.val + (8 * ((32 * k + 8 * j + r) / 32) + (32 * k + 8 * j + r) % 8) = 8 * (8 * t.val + k) + r := by omega
    have g2 : (32 * k + 8 * j + r) / 8 % 4 = j := by omega
    show aT m c (ix2 (id (64 * t.val + (8 * ((32 * k + 8 * j + r) / 32) + (32 * k + 8 * j + r) % 8)) ((32 * k + 8 * j + r) / 8 % 4)) (ofN 1280 C)) = _
    rw [g1, g2]
  rw [hS, hS, hS, hS, hS, hS, hW, hW, hW, hW, hW, hW]
  rw [← hT]
  rfl

/-- The kernel's result array. -/
theorem G3_eq {c : Dev nD} {id : ℕ → ℕ → Fin 256} (h : Good (aS m c) (aT m c) id) (y : S16384x1280.Idx) :
    G3 m c y = fin (aW m c) (aS m c) (aT m c) id (y (0 : Fin 2)).val (y (1 : Fin 2)).val := by
  have h0 : (y (0 : Fin 2)).val < 16384 := (y (0 : Fin 2)).isLt
  have h1 : (y (1 : Fin 2)).val < 1280 := (y (1 : Fin 2)).isLt
  have hp : pt3Of y = (y (0 : Fin 2)).val / 256 := by
    show 1 * ((y (0 : Fin 2)).val / 256 - 0) + 1 * ((y (1 : Fin 2)).val / 1280 - 0) = _
    omega
  have hlt : pt3Of y < cfg0.N := by rw [hp, show cfg0.N = 64 from N_0]; omega
  unfold G3
  rw [dif_pos hlt, fold_eq h]
  refine ptG_at m c id _ _ ?_ ?_
  · show (y (0 : Fin 2)).val = 256 * pt3Of y + (y (0 : Fin 2)).val % 256
    rw [hp]; omega
  · show (y (1 : Fin 2)).val = (y (1 : Fin 2)).val % 1280
    omega

end Cert.KernelIdeal.Val
-- ==== Proof.Ref.lean ====
module

public import proofs.«01_k».proof.Proof.Array
public import proofs.«01_k».proof.Proof.Gen.ReferenceIdeal.Run
public import Idealize.ShloMosaic.Lib.Routing.Ops

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Cert.Arith
open Cert.KernelIdeal.Val (ofN ofN_of_lt fin Good)

/-- The reference's arguments: the code words, the side rows, the byte table. -/
abbrev rW (V : Valuation τ sig (Elt Ideal)) : S6x512x5x8x128.Idx → BitVec 32 := V (Proc.devRef .tc main_arg0)
abbrev rS (V : Valuation τ sig (Elt Ideal)) : S4096x128.Idx → EReal := V (Proc.devRef .tc main_arg1)
abbrev rT (V : Valuation τ sig (Elt Ideal)) : S256x1280.Idx → EReal := V (Proc.devRef .tc main_arg2)

/-- The host's shift by a byte's place is the arithmetic shift. -/
theorem shift_byte (x : BitVec 32) (j : Fin 4) :
    IntOp.shrsi ArithUnit.host x (IntOp.muli (8#32) (BitVec.ofNat 32 j.val)) = x.sshiftRight (8 * j.val) := by
  fin_cases j <;> rfl

theorem shift_four (x : BitVec 32) : IntOp.shrsi ArithUnit.host x 4#32 = x.sshiftRight 4 := rfl

/-- The row, the byte and the word of token `t`, as the kernel's final sum names them. -/
abbrev row (t : ℕ) : ℕ := 8 * (t / 32) + t % 16 / 2
abbrev byt (t : ℕ) : ℕ := 2 * (t % 32 / 16) + t % 2

variable (V : Valuation τ sig (Elt Ideal))

/-- The reference's unpacked bytes, scales, ids and sums, at their types. -/
abbrev r12 : S6x16384x640.Idx → BitVec 32 := res_main_v12 (F := Ideal) V
abbrev r17 : S6x16384.Idx → EReal := res_main_v17 (F := Ideal) V
abbrev r22 : S16384.Idx → BitVec 32 := res_main_v22 (F := Ideal) V
abbrev r197 : S16384x640x2.Idx → EReal := res_main_v197 (F := Ideal) V

/-- The word that holds the two codes of half column `u` of token `t`. -/
def word (q : Fin 6) (t : Fin 16384) (u : Fin 640) : BitVec 32 :=
  rW V (ix5 q (ofN 512 (t.val / 32)) (ofN 5 (u.val / 128)) (ofN 8 (t.val % 16 / 2)) (ofN 128 (2 * (u.val % 64) + u.val % 128 / 64)))

theorem codes_raw (q : Fin 6) (t : Fin 16384) (u : Fin 640) :
    r12 V (ix3 q t u)
      = IntOp.andi (IntOp.shrsi ArithUnit.host
          (rW V (ix5 q ⟨t.val / 32, by omega⟩ ⟨u.val / 128, by omega⟩ ⟨t.val / 2 % 8, by omega⟩ ⟨u.val % 64 * 2 + u.val / 64 % 2, by omega⟩))
          (IntOp.muli (8#32) (BitVec.ofNat 32 (t.val / 16 % 2 * 2 + t.val % 2)))) 255#32 := by
  pointwise [res_main_v12]

theorem codes_at (q : Fin 6) (t : Fin 16384) (u : Fin 640) :
    r12 V (ix3 q t u)
      = ((word V q t u).sshiftRight (8 * byt t.val)) &&& 255#32 := by
  have hb : byt t.val < 4 := by unfold byt; omega
  refine (codes_raw V q t u).trans ?_
  refine congrArg (fun x : BitVec 32 => x &&& 255#32) ?_
  refine Eq.trans ?_ (shift_byte (word V q t u) ⟨byt t.val, hb⟩)
  have e1 : (⟨t.val / 32, by omega⟩ : Fin 512) = ofN 512 (t.val / 32) := ofN_of_lt 512 (by omega) _ rfl
  have e2 : (⟨u.val / 128, by omega⟩ : Fin 5) = ofN 5 (u.val / 128) := ofN_of_lt 5 (by omega) _ rfl
  have e3 : (⟨t.val / 2 % 8, by omega⟩ : Fin 8) = ofN 8 (t.val % 16 / 2) := ofN_of_lt 8 (by omega) _ (by simp only; omega)
  have e4 : (⟨u.val % 64 * 2 + u.val / 64 % 2, by omega⟩ : Fin 128) = ofN 128 (2 * (u.val % 64) + u.val % 128 / 64) :=
    ofN_of_lt 128 (by omega) _ (by simp only; omega)
  have e5 : t.val / 16 % 2 * 2 + t.val % 2 = byt t.val := by unfold byt; omega
  unfold word
  rw [e1, e2, e3, e4, e5]

/-- The scale of code `q` of token `t`. -/
def scl (q : Fin 6) (t : Fin 16384) : EReal := rS V (ix2 (ofN 4096 (row t.val)) (ofN 128 (4 * q.val + byt t.val)))

theorem scales_at (q : Fin 6) (t : Fin 16384) :
    r17 V (ix2 q t) = scl V q t := by
  pointwise [res_main_v17, res_main_v13]
  unfold scl
  rw [← ofN_of_lt (n := 4096) (x := row t.val) (by unfold row; omega) ⟨t.val / 32 * 8 + t.val / 2 % 8, by omega⟩ (by unfold row; simp only; omega),
    ← ofN_of_lt (n := 128) (x := 4 * q.val + byt t.val) (by unfold byt; omega) ⟨q.val * 4 + t.val / 16 % 2 * 2 + t.val % 2, by omega⟩ (by unfold byt; simp only; omega)]

theorem ids_at (t : Fin 16384) :
    r22 V (ix1 t)
      = Ideal.fptosi 32 (rS V (ix2 (ofN 4096 (row t.val)) (ofN 128 (24 + byt t.val)))) := by
  pointwise [res_main_v22, res_main_v13]
  rw [← ofN_of_lt (n := 4096) (x := row t.val) (by unfold row; omega) ⟨t.val / 32 * 8 + t.val / 2 % 8, by omega⟩ (by unfold row; simp only; omega),
    ← ofN_of_lt (n := 128) (x := 24 + byt t.val) (by unfold byt; omega) ⟨24 + (t.val / 16 % 2 * 2 + t.val % 2), by omega⟩ (by unfold byt; simp only; omega)]
  rfl

/-- One code, made signed and scaled, as the reference prints it. -/
def term (c : BitVec 32) (s : EReal) : EReal :=
  (((Scalar.select (IntOp.cmpi .sge c 8#32) (IntOp.subi c 16#32) c).toInt : ℝ) : EReal) * s

/-- It is the nibble's value times the scale. -/
theorem term_nib (n : BitVec 4) (s : EReal) : term (n.setWidth 32) s = ((n.toInt : ℝ) : EReal) * s := by
  unfold term; rw [sgn_nib]

/-- The even columns: the low codes of the words. -/
theorem low_at (t : Fin 16384) (u : Fin 640) :
    r197 V (ix3 t u 0)
      = term (r12 V (ix3 0 t u) &&& 15#32) (scl V 0 t)
        + term (r12 V (ix3 1 t u) &&& 15#32) (scl V 1 t)
        + term (r12 V (ix3 2 t u) &&& 15#32) (scl V 2 t)
        + term (r12 V (ix3 3 t u) &&& 15#32) (scl V 3 t)
        + term (r12 V (ix3 4 t u) &&& 15#32) (scl V 4 t)
        + term (r12 V (ix3 5 t u) &&& 15#32) (scl V 5 t) := by
  simp only [← scales_at]
  pointwise [res_main_v197, fn_main_v197, res_main_v29, res_main_v56, res_main_v85, res_main_v114, res_main_v143, res_main_v172,
    res_main_v25, res_main_v52, res_main_v81, res_main_v110, res_main_v139, res_main_v168]
  rfl

/-- The odd columns: the high codes. -/
theorem high_at (t : Fin 16384) (u : Fin 640) :
    r197 V (ix3 t u 1)
      = term ((r12 V (ix3 0 t u)).sshiftRight 4) (scl V 0 t)
        + term ((r12 V (ix3 1 t u)).sshiftRight 4) (scl V 1 t)
        + term ((r12 V (ix3 2 t u)).sshiftRight 4) (scl V 2 t)
        + term ((r12 V (ix3 3 t u)).sshiftRight 4) (scl V 3 t)
        + term ((r12 V (ix3 4 t u)).sshiftRight 4) (scl V 4 t)
        + term ((r12 V (ix3 5 t u)).sshiftRight 4) (scl V 5 t) := by
  simp only [← scales_at, ← shift_four]
  pointwise [res_main_v197, fn_main_v197, res_main_v41, res_main_v68, res_main_v97, res_main_v126, res_main_v155, res_main_v184,
    res_main_v25, res_main_v52, res_main_v81, res_main_v110, res_main_v139, res_main_v168]
  rfl

/-- The code of half column `u`, low or high. -/
def code (q : Fin 6) (t : Fin 16384) (u : Fin 640) (n : ℕ) : ℤ := (nib (word V q t u) (8 * byt t.val + 4 * n)).toInt

/-- Both: the six codes times their scales. -/
theorem sums_at (t : Fin 16384) (u : Fin 640) (n : Fin 2) (b : EReal) :
    r197 V (ix3 t u n) + b
      = total b (scl V 0 t) (scl V 1 t) (scl V 2 t) (scl V 3 t) (scl V 4 t) (scl V 5 t)
          (code V 0 t u n.val) (code V 1 t u n.val) (code V 2 t u n.val) (code V 3 t u n.val) (code V 4 t u n.val) (code V 5 t u n.val) := by
  have hb : byt t.val < 4 := by unfold byt; omega
  have hn : n = 0 ∨ n = 1 := by omega
  unfold total code
  rcases hn with rfl | rfl
  · rw [low_at]
    simp only [codes_at, fun w => ref_low w ⟨byt t.val, hb⟩, term_nib]
    rfl
  · rw [high_at]
    simp only [codes_at, fun w => ref_high w ⟨byt t.val, hb⟩, term_nib]
    rfl

/-- A byte id stored as a float converts back to itself. -/
theorem fptosi_id (n : Fin 256) : Ideal.fptosi 32 (((n.val : ℝ) : EReal)) = BitVec.ofNat 32 n.val := by
  have h : (n.val : ℤ) < 256 := by exact_mod_cast n.isLt
  show BitVec.ofInt 32 (max _ (min _ (if (0 : ℝ) ≤ (n.val : ℝ) then ⌊(n.val : ℝ)⌋ else ⌈(n.val : ℝ)⌉))) = _
  rw [if_pos (Nat.cast_nonneg _), Int.floor_natCast, min_eq_right (by norm_num; omega), max_eq_right (by norm_num), BitVec.ofInt_natCast]

/-- The reference's result at an element: the same sum the kernel leaves there. -/
theorem result_at (id : ℕ → ℕ → Fin 256) (h : Good (rS V) (rT V) id) (t : Fin 16384) (C : Fin 1280) :
    ((truncf .bf16 (addf (shapeCast _ (res_main_v197 V) shapeCasts_S16384x640x2_S16384x1280) (Host.gather gather_S256x1280_S16384x1_S16384x1280_1_0_n_n_0_1_11280 (V (Proc.devRef .tc main_arg2)) (broadcastInDim S16384x1 ![0] bcast_S16384_S16384x1_0 (select (cmpi .slt (res_main_v22 V) (broadcastInDim S16384 ![] bcast_S_S16384 (constantI S_ 32 0#32))) (addi (res_main_v22 V) (broadcastInDim S16384 ![] bcast_S_S16384 (constantI S_ 32 256#32))) (res_main_v22 V))))) bitsLt_bf16_f32 : FVec Ideal S16384x1280 .bf16) (ix2 t C))
      = fin (rW V) (rS V) (rT V) id t.val C.val := by
  have hb : byt t.val < 4 := by unfold byt; omega
  have hr : row t.val < 4096 := by unfold row; omega
  have hid : r22 V (ix1 t) = BitVec.ofNat 32 (id (row t.val) (byt t.val)).val := by
    rw [ids_at, ← ofN_of_lt (n := 4096) (x := row t.val) hr ⟨row t.val, hr⟩ rfl]
    exact (congrArg (Ideal.fptosi 32) (h.ids ⟨row t.val, hr⟩ ⟨byt t.val, hb⟩)).trans (fptosi_id _)
  have hg : (Host.gather gather_S256x1280_S16384x1_S16384x1280_1_0_n_n_0_1_11280 (V (Proc.devRef .tc main_arg2)) (broadcastInDim S16384x1 ![0] bcast_S16384_S16384x1_0 (select (cmpi .slt (res_main_v22 V) (broadcastInDim S16384 ![] bcast_S_S16384 (constantI S_ 32 0#32))) (addi (res_main_v22 V) (broadcastInDim S16384 ![] bcast_S_S16384 (constantI S_ 32 256#32))) (res_main_v22 V)))) (ix2 t C)
      = rT V (ix2 (id (row t.val) (byt t.val)) C) := by
    refine Routing.gather_row _ rfl rfl rfl rfl rfl _ _ t C _ ?_ (by norm_num)
    pointwise []
    change Scalar.select (IntOp.cmpi .slt (r22 V (ix1 t)) 0#32) (IntOp.addi (r22 V (ix1 t)) 256#32) (r22 V (ix1 t)) = _
    rw [hid]
    generalize id (row t.val) (byt t.val) = n
    revert n
    decide
  have hu : C.val / 2 < 640 := by omega
  have hn : C.val % 2 < 2 := by omega
  have hs : (shapeCast S16384x1280 (r197 V) shapeCasts_S16384x640x2_S16384x1280 : S16384x1280.Idx → EReal) (ix2 t C) = r197 V (ix3 t ⟨C.val / 2, hu⟩ ⟨C.val % 2, hn⟩) := by
    pointwise []
  refine (congrArg₂ (fun a b : EReal => a + b) hs hg).trans ?_
  refine (sums_at V t ⟨C.val / 2, hu⟩ ⟨C.val % 2, hn⟩ _).trans ?_
  have hL : 2 * (C.val / 2 % 64) + C.val / 2 % 128 / 64 = 2 * (C.val % 128 / 2) + C.val % 256 / 128 := by omega
  have hct : C.val / 2 / 128 = C.val / 256 := by omega
  have hq : ∀ q : Fin 6, q = ofN 6 q.val := fun q => ofN_of_lt 6 q.isLt q rfl
  have hcode : ∀ q : Fin 6, code V q t ⟨C.val / 2, hu⟩ (C.val % 2)
      = (nib (rW V (ix5 (ofN 6 q.val) (ofN 512 (t.val / 32)) (ofN 5 (C.val / 256)) (ofN 8 (t.val % 16 / 2))
          (ofN 128 (2 * (C.val % 128 / 2) + C.val % 256 / 128)))) (8 * byt t.val + 4 * (C.val % 2))).toInt := fun q => by
    unfold code word
    simp only [hL, hct, ← hq]
  have hC : C = ofN 1280 C.val := ofN_of_lt 1280 C.isLt C rfl
  simp only [hcode]
  rw [show rT V (ix2 (id (row t.val) (byt t.val)) C) = rT V (ix2 (id (row t.val) (byt t.val)) (ofN 1280 C.val)) from
    congrArg (fun c => rT V (ix2 (id (row t.val) (byt t.val)) c)) hC]
  unfold fin
  rfl

/-- The result array, as the reference's run leaves it. -/
abbrev out : S16384x1280.Idx → EReal :=
  ((truncf .bf16 (addf (shapeCast _ (res_main_v197 V) shapeCasts_S16384x640x2_S16384x1280) (Host.gather gather_S256x1280_S16384x1_S16384x1280_1_0_n_n_0_1_11280 (V (Proc.devRef .tc main_arg2)) (broadcastInDim S16384x1 ![0] bcast_S16384_S16384x1_0 (select (cmpi .slt (res_main_v22 V) (broadcastInDim S16384 ![] bcast_S_S16384 (constantI S_ 32 0#32))) (addi (res_main_v22 V) (broadcastInDim S16384 ![] bcast_S_S16384 (constantI S_ 32 256#32))) (res_main_v22 V))))) bitsLt_bf16_f32 : FVec Ideal S16384x1280 .bf16))

/-- The same, at any index. -/
theorem result_apply (id : ℕ → ℕ → Fin 256) (h : Good (rS V) (rT V) id) (y : S16384x1280.Idx) :
    out V y = fin (rW V) (rS V) (rT V) id (y 0).val (y 1).val := by
  conv_lhs => rw [eq_ix2 y]
  exact result_at V id h (y 0) (y 1)

end Cert.ReferenceIdeal.Val

end
-- ==== Proof.Pre.lean ====
module

public import proofs.«01_k».proof.Proof.Ref
public import proofs.«01_k».proof.Proof.Gen.Pre_finite
public import Idealize.ShloMosaic.Lib.ReduceAll

@[expose] public section

set_option maxRecDepth 16384

noncomputable section

namespace Cert.Pre_finite.Val

open Cert.Pre_finite Cert.Pre_finite.Gen Idealize.ShloMosaic Idealize.SL.Sem
open Cert.KernelIdeal.Val (ofN ofN_of_lt Good)

/-- A number of absolute value below the infinity is real. -/
theorem real_of_abs (x : EReal) (h : FloatOps.cmpf (F := Ideal) (φ := .f32) .olt (FloatOps.hostAbsf (F := Ideal) (φ := .f32) x) (Ideal.ofBits .f32 0x7F800000#32) = 1#1) :
    ∃ a : ℝ, x = a := by
  have hi : Ideal.ofBits .f32 0x7F800000#32 = ⊤ := by simp [Ideal.ofBits, Ideal.ieee]
  change Ideal.cmp .olt (max x (-x)) _ = 1#1 at h
  rw [hi] at h
  induction x using EReal.rec with
  | bot => simp [Ideal.cmp] at h
  | top => simp [Ideal.cmp] at h
  | coe a => exact ⟨a, rfl⟩

theorem ofBool_one {b : Bool} (h : BitVec.ofBool b = 1#1) : b = true := by revert h; cases b <;> decide

/-- The byte id that row `R` of the side array holds for byte `j`. -/
def idAt (S : S4096x128.Idx → EReal) (R j : ℕ) : Fin 256 :=
  ofN 256 (Ideal.fptosi 32 (S (ix2 (ofN 4096 R) (ofN 128 (24 + j))))).toInt.toNat

/-- A float equal to its own integer part, which is a byte, is that byte. -/
theorem id_of (x : EReal) (e : x = (((Ideal.fptosi 32 x).toInt : ℝ) : EReal)) (h0 : (0#32).toInt ≤ (Ideal.fptosi 32 x).toInt)
    (h1 : (Ideal.fptosi 32 x).toInt < (256#32).toInt) :
    x = (((ofN 256 (Ideal.fptosi 32 x).toInt.toNat).val : ℝ) : EReal) := by
  refine e.trans ?_
  generalize (Ideal.fptosi 32 x).toInt = z at h0 h1 ⊢
  change 0 ≤ z at h0
  change z < 256 at h1
  lift z to ℕ using h0
  have hz : z % 256 = z := Nat.mod_eq_of_lt (by omega)
  show _ = (((z % 256 : ℕ) : ℝ) : EReal)
  rw [hz]
  simp

instance : Subsingleton S_.Idx := ⟨fun _ _ => funext fun i => i.elim0⟩

/-- The precondition read back: real scales and table, and ids that are bytes. -/
theorem good (W : S6x512x5x8x128.Idx → BitVec 32) (S : S4096x128.Idx → EReal) (T : S256x1280.Idx → EReal)
    (h : Cert.Pre_finite.fn (F := Ideal) W S T = fun _ => 1#1) : Good S T (idAt S) := by
  have h0 := congrFun h ix0
  unfold fn fn_part1 at h0
  obtain ⟨h1, hr⟩ := IntOp.andi_eq_one.1 h0
  obtain ⟨h2, he⟩ := IntOp.andi_eq_one.1 h1
  obtain ⟨hs, ht⟩ := IntOp.andi_eq_one.1 h2
  have hs := Host.reduce_andi_all _ _ _ _ _ hs
  have ht := Host.reduce_andi_all _ _ _ _ _ ht
  have he := Host.reduce_andi_all _ _ _ _ _ he
  have hr := Host.reduce_andi_all _ _ _ _ _ hr
  refine ⟨fun R q j => ?_, fun y => real_of_abs _ (ht y), fun R j => ?_⟩
  · have hx : 4 * q.val + j.val < 24 := by omega
    have e := hs (ix2 R ⟨4 * q.val + j.val, hx⟩)
    pointwise [] at e
    rw [← ofN_of_lt 128 (by omega) (⟨4 * q.val + j.val, by omega⟩ : Fin 128) rfl]
    exact real_of_abs _ e
  · have e := he (ix2 R j)
    have r := hr (ix2 R j)
    pointwise [] at e
    pointwise [] at r
    have hj : (⟨24 + j.val, by omega⟩ : Fin 128) = ofN 128 (24 + j.val) := ofN_of_lt 128 (by omega) _ rfl
    have hR : R = ofN 4096 R.val := ofN_of_lt 4096 R.isLt R rfl
    rw [hj] at e r
    have e' := of_decide_eq_true (ofBool_one e)
    obtain ⟨r0, r1⟩ := IntOp.andi_eq_one.1 r
    exact id_of _ e' (IntOp.cmpi_sge.1 r0) (IntOp.cmpi_slt.1 r1) |>.trans (by unfold idAt; rw [← hR])

end Cert.Pre_finite.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Value
public import proofs.«01_k».proof.Proof.Gen.ReferenceIdeal.Run
public import proofs.«01_k».proof.Proof.Pre
public import Idealize.ShloMosaic.Lib.Bf16Pair
public import Idealize.ShloMosaic.Adequacy
public import Idealize.ShloMosaic.Init

@[expose] public section

noncomputable section

namespace Cert.Proof

open Idealize.ShloMosaic Idealize.SL.Sem

/-- The float operations the idealization replaced keep their meaning at these shapes. -/
theorem preserves : Cert.preserves_Kernel_KernelIdeal :=
  ⟨IdealRules.bf16_pack.statement _, IdealRules.bf16_pair.packStatement _, IdealRules.bf16_pair.statement _ _⟩

/-- At equal arguments within the precondition, the reference's result is the array the kernel leaves. -/
theorem value_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (hgood : Cert.KernelIdeal.Val.Good (Cert.KernelIdeal.Val.aS m c) (Cert.KernelIdeal.Val.aT m c) (Cert.Pre_finite.Val.idAt (Cert.KernelIdeal.Val.aS m c)))
    (hW : Cert.ReferenceIdeal.Val.rW V = Cert.KernelIdeal.Val.aW m c)
    (hS : Cert.ReferenceIdeal.Val.rS V = Cert.KernelIdeal.Val.aS m c)
    (hT : Cert.ReferenceIdeal.Val.rT V = Cert.KernelIdeal.Val.aT m c) (y : Cert.ReferenceIdeal.S16384x1280.Idx) :
    Cert.ReferenceIdeal.Val.out V y = (Cert.KernelIdeal.Value.G3 m c : Cert.KernelIdeal.S16384x1280.Idx → EReal) y := by
  refine Eq.trans ?_ (Cert.KernelIdeal.Val.G3_eq hgood y).symm
  have hgood' := hgood
  rw [← hS, ← hT] at hgood'
  refine (Cert.ReferenceIdeal.Val.result_apply V _ hgood' y).trans ?_
  rw [hW, hS, hT]

/-- The same, as arrays. -/
theorem out_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (hgood : Cert.KernelIdeal.Val.Good (Cert.KernelIdeal.Val.aS m c) (Cert.KernelIdeal.Val.aT m c) (Cert.Pre_finite.Val.idAt (Cert.KernelIdeal.Val.aS m c)))
    (hW : Cert.ReferenceIdeal.Val.rW V = Cert.KernelIdeal.Val.aW m c)
    (hS : Cert.ReferenceIdeal.Val.rS V = Cert.KernelIdeal.Val.aS m c)
    (hT : Cert.ReferenceIdeal.Val.rT V = Cert.KernelIdeal.Val.aT m c) :
    Cert.ReferenceIdeal.Val.out V = (Cert.KernelIdeal.Value.G3 m c : Cert.KernelIdeal.S16384x1280.Idx → EReal) :=
  funext (value_eq m c V hgood hW hS hT)

/-- An array equal to the call's, reshaped, is the kernel's first result. -/
theorem emb_eq (m : (ℓ : Loc Cert.KernelIdeal.nD Cert.KernelIdeal.τ Cert.KernelIdeal.sig) → Buf (Elt Ideal) ℓ) (c : Dev Cert.KernelIdeal.nD)
    (A : FVec Ideal Cert.ReferenceIdeal.S16384x1280 .bf16) (h : A = (Cert.KernelIdeal.Value.G3 m c : Cert.KernelIdeal.S16384x1280.Idx → EReal)) :
    (shapeCast Cert.ReferenceIdeal.S4x4096x1280 A Cert.ReferenceIdeal.Gen.shapeCasts_S16384x1280_S4x4096x1280
      : FVec Ideal Cert.ReferenceIdeal.S4x4096x1280 .bf16) = Cert.KernelIdeal.Value.emb m c := by
  subst h
  unfold Cert.KernelIdeal.Value.emb
  rfl

/-- An array equal to the first result, cut to seven positions, is the kernel's second result. -/
theorem head_eq (m : (ℓ : Loc Cert.KernelIdeal.nD Cert.KernelIdeal.τ Cert.KernelIdeal.sig) → Buf (Elt Ideal) ℓ) (c : Dev Cert.KernelIdeal.nD)
    (B : FVec Ideal Cert.ReferenceIdeal.S4x4096x1280 .bf16) (h : B = (Cert.KernelIdeal.Value.emb m c : Cert.KernelIdeal.S4x4096x1280.Idx → EReal)) :
    (extractStridedSlice Cert.ReferenceIdeal.S4x7x1280 ![0, 0, 0] B Cert.ReferenceIdeal.Gen.slices_S4x4096x1280_S4x7x1280_0_0_0
      : FVec Ideal Cert.ReferenceIdeal.S4x7x1280 .bf16) = Cert.KernelIdeal.Value.headEmb m c := by
  subst h
  unfold Cert.KernelIdeal.Value.headEmb
  rfl

/-- From a memory satisfying the precondition, the idealized kernel and the reference end with the same two results. -/
theorem algebraic : Cert.algebraic_KernelIdeal_ReferenceIdeal_pre_finite := by
  intro m g m' g' hpre hargs
  refine ⟨fun c => Cert.KernelIdeal.Value.emb m c, fun c => Cert.KernelIdeal.Value.headEmb m c, Cert.KernelIdeal.Value.run m g, ?_⟩
  refine (θ_run _ _ _).mono (fun r h c => ?_) (Cert.ReferenceIdeal.Value.run m' g')
  obtain ⟨h0, h1, h2⟩ := hargs c
  have e := emb_eq m c _ (out_eq m c (StableHlo.launchContents m' c) (Cert.Pre_finite.Val.good _ _ _ (hpre c)) h0 h1 h2)
  exact ⟨(h c).1.trans e, (h c).2.1.trans (head_eq m c _ e), (h c).2.2⟩

/-- The reference runs, keeps its arguments, and has no semaphore. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- Every claim of the certificate. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, algebraic⟩

end Cert.Proof

end
